-- ==== Defs.lean ====
def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_finite_scores [hPre_finite_scores : Cert.Pre_finite_scores.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_finite_scores.fn (F := Ideal) (m ((c.tc : Thread Cert.CtxAttnIdeal.nD Cert.CtxAttnIdeal.τ).loc Cert.CtxAttnIdeal.main_arg0))) = (fun _ => 1#1)

def Pre_CtxAttnRefIdeal (m : (ℓ : Loc Cert.CtxAttnRefIdeal.nD Cert.CtxAttnRefIdeal.τ Cert.CtxAttnRefIdeal.sig) → Buf (Elt Ideal) ℓ) : Prop :=
  True

def Pre_CtxAttnRefIdeal_finite_scores [hPre_finite_scores : Cert.Pre_finite_scores.Facts] (m : (ℓ : Loc Cert.CtxAttnRefIdeal.nD Cert.CtxAttnRefIdeal.τ Cert.CtxAttnRefIdeal.sig) → Buf (Elt Ideal) ℓ) : Prop :=
  ∀ c : Dev Cert.CtxAttnRefIdeal.nD,
    (Cert.Pre_finite_scores.fn (F := Ideal) (m ((c.tc : Thread Cert.CtxAttnRefIdeal.nD Cert.CtxAttnRefIdeal.τ).loc Cert.CtxAttnRefIdeal.main_arg0))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_S5Scan (m : (ℓ : Loc Cert.S5Scan.nD Cert.S5Scan.τ Cert.S5Scan.sig) → Buf (Elt Bits) ℓ) : Prop :=
  True

def Pre_S5ScanIdeal (m : (ℓ : Loc Cert.S5ScanIdeal.nD Cert.S5ScanIdeal.τ Cert.S5ScanIdeal.sig) → Buf (Elt Ideal) ℓ) : Prop :=
  True

def Pre_S5ScanRefIdeal (m : (ℓ : Loc Cert.S5ScanRefIdeal.nD Cert.S5ScanRefIdeal.τ Cert.S5ScanRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ r.2.sem = fun _ => 0)

def quiescent_CtxAttnIdeal_pre_finite_scores [hCtxAttnIdeal : Cert.CtxAttnIdeal.Facts] [hPre_finite_scores : Cert.Pre_finite_scores.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_finite_scores m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ r.2.sem = fun _ => 0)

def quiescent_CtxAttnRefIdeal [hCtxAttnRefIdeal : Cert.CtxAttnRefIdeal.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0))
      ∧ r.2.sem = fun _ => 0)

def quiescent_CtxAttnRefIdeal_pre_finite_scores [hCtxAttnRefIdeal : Cert.CtxAttnRefIdeal.Facts] [hPre_finite_scores : Cert.Pre_finite_scores.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal_finite_scores m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_S5Scan [hS5Scan : Cert.S5Scan.Facts] : Prop :=
  ∀ (m : (ℓ : Loc Cert.S5Scan.nD Cert.S5Scan.τ Cert.S5Scan.sig) → Buf (Elt Bits) ℓ) (g : Dev Cert.S5Scan.nD → PrngReg), Pre_S5Scan m →
    θ_run (Cert.S5Scan.defs (F := Bits)) (onTc (τ := Cert.S5Scan.τ) (Cert.S5Scan.main (F := Bits))) ⟨m, fun _ => 0, g⟩ (fun r => (∀ c : Dev Cert.S5Scan.nD,
      r.2.mem ((c.tc : Thread Cert.S5Scan.nD Cert.S5Scan.τ).loc Cert.S5Scan.main_arg0) = m ((c.tc : Thread Cert.S5Scan.nD Cert.S5Scan.τ).loc Cert.S5Scan.main_arg0)
      ∧ r.2.mem ((c.tc : Thread Cert.S5Scan.nD Cert.S5Scan.τ).loc Cert.S5Scan.main_arg1) = m ((c.tc : Thread Cert.S5Scan.nD Cert.S5Scan.τ).loc Cert.S5Scan.main_arg1)
      ∧ r.2.mem ((c.tc : Thread Cert.S5Scan.nD Cert.S5Scan.τ).loc Cert.S5Scan.main_arg2) = m ((c.tc : Thread Cert.S5Scan.nD Cert.S5Scan.τ).loc Cert.S5Scan.main_arg2))
      ∧ r.2.sem = fun _ => 0)

def quiescent_S5ScanIdeal [hS5ScanIdeal : Cert.S5ScanIdeal.Facts] : Prop :=
  ∀ (m : (ℓ : Loc Cert.S5ScanIdeal.nD Cert.S5ScanIdeal.τ Cert.S5ScanIdeal.sig) → Buf (Elt Ideal) ℓ) (g : Dev Cert.S5ScanIdeal.nD → PrngReg), Pre_S5ScanIdeal m →
    θ_run (Cert.S5ScanIdeal.defs (F := Ideal)) (onTc (τ := Cert.S5ScanIdeal.τ) (Cert.S5ScanIdeal.main (F := Ideal))) ⟨m, fun _ => 0, g⟩ (fun r => (∀ c : Dev Cert.S5ScanIdeal.nD,
      r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
      ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
      ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2))
      ∧ r.2.sem = fun _ => 0)

def quiescent_S5ScanRefIdeal [hS5ScanRefIdeal : Cert.S5ScanRefIdeal.Facts] : Prop :=
  ∀ (m : (ℓ : Loc Cert.S5ScanRefIdeal.nD Cert.S5ScanRefIdeal.τ Cert.S5ScanRefIdeal.sig) → Buf (Elt Ideal) ℓ) (g : Dev Cert.S5ScanRefIdeal.nD → PrngReg), Pre_S5ScanRefIdeal m →
    θ_run (Cert.S5ScanRefIdeal.defs (F := Ideal)) (onTc (τ := Cert.S5ScanRefIdeal.τ) (Cert.S5ScanRefIdeal.main (F := Ideal))) ⟨m, fun _ => 0, g⟩ (fun r => (∀ c : Dev Cert.S5ScanRefIdeal.nD,
      r.2.mem ((c.tc : Thread Cert.S5ScanRefIdeal.nD Cert.S5ScanRefIdeal.τ).loc Cert.S5ScanRefIdeal.main_arg0) = m ((c.tc : Thread Cert.S5ScanRefIdeal.nD Cert.S5ScanRefIdeal.τ).loc Cert.S5ScanRefIdeal.main_arg0)
      ∧ r.2.mem ((c.tc : Thread Cert.S5ScanRefIdeal.nD Cert.S5ScanRefIdeal.τ).loc Cert.S5ScanRefIdeal.main_arg1) = m ((c.tc : Thread Cert.S5ScanRefIdeal.nD Cert.S5ScanRefIdeal.τ).loc Cert.S5ScanRefIdeal.main_arg1)
      ∧ r.2.mem ((c.tc : Thread Cert.S5ScanRefIdeal.nD Cert.S5ScanRefIdeal.τ).loc Cert.S5ScanRefIdeal.main_arg2) = m ((c.tc : Thread Cert.S5ScanRefIdeal.nD Cert.S5ScanRefIdeal.τ).loc Cert.S5ScanRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_CtxAttn_CtxAttnIdeal : Prop :=
  True

def algebraic_CtxAttnIdeal_CtxAttnRefIdeal_pre_finite_scores [hCtxAttnIdeal : Cert.CtxAttnIdeal.Facts] [hCtxAttnRefIdeal : Cert.CtxAttnRefIdeal.Facts] [hPre_finite_scores : Cert.Pre_finite_scores.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxAttnRefIdeal.nD Cert.CtxAttnRefIdeal.τ Cert.CtxAttnRefIdeal.sig) → Buf (Elt Ideal) ℓ) (g' : Dev Cert.CtxAttnRefIdeal.nD → PrngReg), Pre_CtxAttnIdeal_finite_scores m →
    (∀ c : Dev Cert.CtxAttnIdeal.nD,
      m' ((c.tc : Thread Cert.CtxAttnRefIdeal.nD Cert.CtxAttnRefIdeal.τ).loc Cert.CtxAttnRefIdeal.main_arg0) = m ((c.tc : Thread Cert.CtxAttnIdeal.nD Cert.CtxAttnIdeal.τ).loc Cert.CtxAttnIdeal.main_arg0)) →
    ∃ (v0 : (c : Dev Cert.CtxAttnIdeal.nD) → Buf (Elt Ideal) ((c.tc : Thread Cert.CtxAttnIdeal.nD Cert.CtxAttnIdeal.τ).loc Cert.CtxAttnIdeal.main_v0)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v0) = v0 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ θ_run (Cert.CtxAttnRefIdeal.defs (F := Ideal)) (onTc (τ := Cert.CtxAttnRefIdeal.τ) (Cert.CtxAttnRefIdeal.main (F := Ideal))) ⟨m', fun _ => 0, g'⟩ (fun r => ∀ c : Dev Cert.CtxAttnRefIdeal.nD,
          r.2.mem ((c.tc : Thread Cert.CtxAttnRefIdeal.nD Cert.CtxAttnRefIdeal.τ).loc Cert.CtxAttnRefIdeal.main_v24) = v0 c
          ∧ r.2.mem ((c.tc : Thread Cert.CtxAttnRefIdeal.nD Cert.CtxAttnRefIdeal.τ).loc Cert.CtxAttnRefIdeal.main_arg0) = m' ((c.tc : Thread Cert.CtxAttnRefIdeal.nD Cert.CtxAttnRefIdeal.τ).loc Cert.CtxAttnRefIdeal.main_arg0))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v35) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v6)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v6) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v30) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)) →
    ∃ (v0 : (c : Dev Cert.InEvenIdeal.nD) → Buf (Elt Ideal) ((c.tc : Thread Cert.InEvenIdeal.nD Cert.InEvenIdeal.τ).loc Cert.InEvenIdeal.main_v5)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v5) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v29) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)) →
    ∃ (v0 : (c : Dev Cert.EvenOutIdeal.nD) → Buf (Elt Ideal) ((c.tc : Thread Cert.EvenOutIdeal.nD Cert.EvenOutIdeal.τ).loc Cert.EvenOutIdeal.main_v8)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v8) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v45) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)) →
    ∃ (v0 : (c : Dev Cert.OddOutIdeal.nD) → Buf (Elt Ideal) ((c.tc : Thread Cert.OddOutIdeal.nD Cert.OddOutIdeal.τ).loc Cert.OddOutIdeal.main_v8)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v8) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v34) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v2)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v2) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v20) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_S5Scan_S5ScanIdeal : Prop :=
  True

def algebraic_S5ScanIdeal_S5ScanRefIdeal [hS5ScanIdeal : Cert.S5ScanIdeal.Facts] [hS5ScanRefIdeal : Cert.S5ScanRefIdeal.Facts] : Prop :=
  ∀ (m : (ℓ : Loc Cert.S5ScanIdeal.nD Cert.S5ScanIdeal.τ Cert.S5ScanIdeal.sig) → Buf (Elt Ideal) ℓ) (g : Dev Cert.S5ScanIdeal.nD → PrngReg)
    (m' : (ℓ : Loc Cert.S5ScanRefIdeal.nD Cert.S5ScanRefIdeal.τ Cert.S5ScanRefIdeal.sig) → Buf (Elt Ideal) ℓ) (g' : Dev Cert.S5ScanRefIdeal.nD → PrngReg), Pre_S5ScanIdeal m →
    (∀ c : Dev Cert.S5ScanIdeal.nD,
      m' ((c.tc : Thread Cert.S5ScanRefIdeal.nD Cert.S5ScanRefIdeal.τ).loc Cert.S5ScanRefIdeal.main_arg0) = m ((c.tc : Thread Cert.S5ScanIdeal.nD Cert.S5ScanIdeal.τ).loc Cert.S5ScanIdeal.main_arg0)
      ∧ m' ((c.tc : Thread Cert.S5ScanRefIdeal.nD Cert.S5ScanRefIdeal.τ).loc Cert.S5ScanRefIdeal.main_arg1) = m ((c.tc : Thread Cert.S5ScanIdeal.nD Cert.S5ScanIdeal.τ).loc Cert.S5ScanIdeal.main_arg1)
      ∧ m' ((c.tc : Thread Cert.S5ScanRefIdeal.nD Cert.S5ScanRefIdeal.τ).loc Cert.S5ScanRefIdeal.main_arg2) = m ((c.tc : Thread Cert.S5ScanIdeal.nD Cert.S5ScanIdeal.τ).loc Cert.S5ScanIdeal.main_arg2)) →
    ∃ (v0 : (c : Dev Cert.S5ScanIdeal.nD) → Buf (Elt Ideal) ((c.tc : Thread Cert.S5ScanIdeal.nD Cert.S5ScanIdeal.τ).loc Cert.S5ScanIdeal.main_v0_0)) (v1 : (c : Dev Cert.S5ScanIdeal.nD) → Buf (Elt Ideal) ((c.tc : Thread Cert.S5ScanIdeal.nD Cert.S5ScanIdeal.τ).loc Cert.S5ScanIdeal.main_v0_1)),
      θ_run (Cert.S5ScanIdeal.defs (F := Ideal)) (onTc (τ := Cert.S5ScanIdeal.τ) (Cert.S5ScanIdeal.main (F := Ideal))) ⟨m, fun _ => 0, g⟩ (fun r => ∀ c : Dev Cert.S5ScanIdeal.nD,
          r.2.mem ((c.tc : Thread Cert.S5ScanIdeal.nD Cert.S5ScanIdeal.τ).loc Cert.S5ScanIdeal.main_v0_0) = v0 c
          ∧ r.2.mem ((c.tc : Thread Cert.S5ScanIdeal.nD Cert.S5ScanIdeal.τ).loc Cert.S5ScanIdeal.main_v0_1) = v1 c
          ∧ r.2.mem ((c.tc : Thread Cert.S5ScanIdeal.nD Cert.S5ScanIdeal.τ).loc Cert.S5ScanIdeal.main_arg0) = m ((c.tc : Thread Cert.S5ScanIdeal.nD Cert.S5ScanIdeal.τ).loc Cert.S5ScanIdeal.main_arg0)
          ∧ r.2.mem ((c.tc : Thread Cert.S5ScanIdeal.nD Cert.S5ScanIdeal.τ).loc Cert.S5ScanIdeal.main_arg1) = m ((c.tc : Thread Cert.S5ScanIdeal.nD Cert.S5ScanIdeal.τ).loc Cert.S5ScanIdeal.main_arg1)
          ∧ r.2.mem ((c.tc : Thread Cert.S5ScanIdeal.nD Cert.S5ScanIdeal.τ).loc Cert.S5ScanIdeal.main_arg2) = m ((c.tc : Thread Cert.S5ScanIdeal.nD Cert.S5ScanIdeal.τ).loc Cert.S5ScanIdeal.main_arg2))
      ∧ θ_run (Cert.S5ScanRefIdeal.defs (F := Ideal)) (onTc (τ := Cert.S5ScanRefIdeal.τ) (Cert.S5ScanRefIdeal.main (F := Ideal))) ⟨m', fun _ => 0, g'⟩ (fun r => ∀ c : Dev Cert.S5ScanRefIdeal.nD,
          r.2.mem ((c.tc : Thread Cert.S5ScanRefIdeal.nD Cert.S5ScanRefIdeal.τ).loc Cert.S5ScanRefIdeal.main_v36) = v0 c
          ∧ r.2.mem ((c.tc : Thread Cert.S5ScanRefIdeal.nD Cert.S5ScanRefIdeal.τ).loc Cert.S5ScanRefIdeal.main_v34) = v1 c
          ∧ r.2.mem ((c.tc : Thread Cert.S5ScanRefIdeal.nD Cert.S5ScanRefIdeal.τ).loc Cert.S5ScanRefIdeal.main_arg0) = m' ((c.tc : Thread Cert.S5ScanRefIdeal.nD Cert.S5ScanRefIdeal.τ).loc Cert.S5ScanRefIdeal.main_arg0)
          ∧ r.2.mem ((c.tc : Thread Cert.S5ScanRefIdeal.nD Cert.S5ScanRefIdeal.τ).loc Cert.S5ScanRefIdeal.main_arg1) = m' ((c.tc : Thread Cert.S5ScanRefIdeal.nD Cert.S5ScanRefIdeal.τ).loc Cert.S5ScanRefIdeal.main_arg1)
          ∧ r.2.mem ((c.tc : Thread Cert.S5ScanRefIdeal.nD Cert.S5ScanRefIdeal.τ).loc Cert.S5ScanRefIdeal.main_arg2) = m' ((c.tc : Thread Cert.S5ScanRefIdeal.nD Cert.S5ScanRefIdeal.τ).loc Cert.S5ScanRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v14) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hCtxAttn : Cert.CtxAttn.Facts) (hCtxAttnIdeal : Cert.CtxAttnIdeal.Facts) (hCtxAttnRefIdeal : Cert.CtxAttnRefIdeal.Facts) (hMlp : Cert.Mlp.Facts) (hMlpIdeal : Cert.MlpIdeal.Facts) (hMlpRefIdeal : Cert.MlpRefIdeal.Facts) (hInOdd : Cert.InOdd.Facts) (hInOddIdeal : Cert.InOddIdeal.Facts) (hInOddRefIdeal : Cert.InOddRefIdeal.Facts) (hInEven : Cert.InEven.Facts) (hInEvenIdeal : Cert.InEvenIdeal.Facts) (hInEvenRefIdeal : Cert.InEvenRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hModulation : Cert.Modulation.Facts) (hModulationIdeal : Cert.ModulationIdeal.Facts) (hModulationRefIdeal : Cert.ModulationRefIdeal.Facts) (hS5Scan : Cert.S5Scan.Facts) (hS5ScanIdeal : Cert.S5ScanIdeal.Facts) (hS5ScanRefIdeal : Cert.S5ScanRefIdeal.Facts) (hFinalNorm : Cert.FinalNorm.Facts) (hFinalNormIdeal : Cert.FinalNormIdeal.Facts) (hFinalNormRefIdeal : Cert.FinalNormRefIdeal.Facts) (hPre_finite_scores : Cert.Pre_finite_scores.Facts),
    quiescent_CtxAttn (hCtxAttn := hCtxAttn)
    ∧ quiescent_CtxAttnIdeal (hCtxAttnIdeal := hCtxAttnIdeal)
    ∧ quiescent_CtxAttnIdeal_pre_finite_scores (hCtxAttnIdeal := hCtxAttnIdeal) (hPre_finite_scores := hPre_finite_scores)
    ∧ quiescent_CtxAttnRefIdeal (hCtxAttnRefIdeal := hCtxAttnRefIdeal)
    ∧ quiescent_CtxAttnRefIdeal_pre_finite_scores (hCtxAttnRefIdeal := hCtxAttnRefIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_S5Scan (hS5Scan := hS5Scan)
    ∧ quiescent_S5ScanIdeal (hS5ScanIdeal := hS5ScanIdeal)
    ∧ quiescent_S5ScanRefIdeal (hS5ScanRefIdeal := hS5ScanRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_CtxAttn_CtxAttnIdeal
    ∧ algebraic_CtxAttnIdeal_CtxAttnRefIdeal_pre_finite_scores (hCtxAttnIdeal := hCtxAttnIdeal) (hCtxAttnRefIdeal := hCtxAttnRefIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_InOdd_InOddIdeal
    ∧ algebraic_InOddIdeal_InOddRefIdeal (hInOddIdeal := hInOddIdeal) (hInOddRefIdeal := hInOddRefIdeal)
    ∧ preserves_InEven_InEvenIdeal
    ∧ algebraic_InEvenIdeal_InEvenRefIdeal (hInEvenIdeal := hInEvenIdeal) (hInEvenRefIdeal := hInEvenRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_Modulation_ModulationIdeal
    ∧ algebraic_ModulationIdeal_ModulationRefIdeal (hModulationIdeal := hModulationIdeal) (hModulationRefIdeal := hModulationRefIdeal)
    ∧ preserves_S5Scan_S5ScanIdeal
    ∧ algebraic_S5ScanIdeal_S5ScanRefIdeal (hS5ScanIdeal := hS5ScanIdeal) (hS5ScanRefIdeal := hS5ScanRefIdeal)
    ∧ preserves_FinalNorm_FinalNormIdeal
    ∧ algebraic_FinalNormIdeal_FinalNormRefIdeal (hFinalNormIdeal := hFinalNormIdeal) (hFinalNormRefIdeal := hFinalNormRefIdeal)
-- ==== Pre_finite_scores.lean ====
abbrev S4096x2048 : Shape := ⟨2, ![4096, 2048]⟩
abbrev S4096x1024 : Shape := ⟨2, ![4096, 1024]⟩
abbrev S_ : Shape := ⟨0, ![]⟩

class Facts : Prop where
  slices_S4096x2048_S4096x1024_0_512 : S4096x2048.Slices ![0, 512] S4096x1024
  bcast_S_S4096x1024 : S_.BroadcastsInDim S4096x1024 (![] : Fin 0 → Fin S4096x1024.rank)

variable [Facts]

def fn {F : FTy → Type} [FloatOps F] (main_arg0 : FVec F S4096x2048 .f32) : IVec S4096x1024 1 :=
  let main_v0 : FVec F S4096x1024 .f32 := (extractStridedSlice S4096x1024 ![0, 512] · slices_S4096x2048_S4096x1024_0_512) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== CtxAttn.lean ====
abbrev S4096x2048 : Shape := ⟨2, ![4096, 2048]⟩
abbrev S4096x512 : Shape := ⟨2, ![4096, 512]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxAttnRefIdeal.lean ====
abbrev S4096x2048 : Shape := ⟨2, ![4096, 2048]⟩
abbrev S16x256x2048 : Shape := ⟨3, ![16, 256, 2048]⟩
abbrev S16x256x1536 : Shape := ⟨3, ![16, 256, 1536]⟩
abbrev S16x256x512 : Shape := ⟨3, ![16, 256, 512]⟩
abbrev S16x256x8x64 : Shape := ⟨4, ![16, 256, 8, 64]⟩
abbrev S_ : Shape := ⟨0, ![]⟩
abbrev S16x8x256x256 : Shape := ⟨4, ![16, 8, 256, 256]⟩
abbrev S16x8x256 : Shape := ⟨3, ![16, 8, 256]⟩
abbrev S16x8x256x1 : Shape := ⟨4, ![16, 8, 256, 1]⟩
abbrev S16x8x64x256 : Shape := ⟨4, ![16, 8, 64, 256]⟩
abbrev S4096x512 : Shape := ⟨2, ![4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S16x256x2048, .f32⟩
  | .hbm, ⟨2, _⟩ => ⟨S16x256x1536, .f32⟩
  | .hbm, ⟨3, _⟩ => ⟨S16x256x512, .f32⟩
  | .hbm, ⟨4, _⟩ => ⟨S16x256x512, .f32⟩
  | .hbm, ⟨5, _⟩ => ⟨S16x256x512, .f32⟩
  | .hbm, ⟨6, _⟩ => ⟨S16x256x8x64, .f32⟩
  | .hbm, ⟨7, _⟩ => ⟨S_, .f32⟩
  | .hbm, ⟨8, _⟩ => ⟨S16x256x8x64, .f32⟩
  | .hbm, ⟨9, _⟩ => ⟨S16x256x8x64, .f32⟩
  | .hbm, ⟨10, _⟩ => ⟨S16x256x8x64, .f32⟩
  | .hbm, ⟨11, _⟩ => ⟨S16x256x8x64, .f32⟩
  | .hbm, ⟨12, _⟩ => ⟨S16x8x256x256, .f32⟩
  | .hbm, ⟨13, _⟩ => ⟨S_, .f32⟩
  | .hbm, ⟨14, _⟩ => ⟨S16x8x256, .f32⟩
  | .hbm, ⟨15, _⟩ => ⟨S_, .f32⟩
  | .hbm, ⟨16, _⟩ => ⟨S16x8x256, .f32⟩
  | .hbm, ⟨17, _⟩ => ⟨S16x8x256, .f32⟩
  | .hbm, ⟨18, _⟩ => ⟨S16x8x256x1, .f32⟩
  | .hbm, ⟨19, _⟩ => ⟨S16x8x256x256, .f32⟩
  | .hbm, ⟨20, _⟩ => ⟨S16x8x256x256, .f32⟩
  | .hbm, ⟨21, _⟩ => ⟨S16x8x256x256, .f32⟩
  | .hbm, ⟨22, _⟩ => ⟨S_, .f32⟩
  | .hbm, ⟨23, _⟩ => ⟨S16x8x256, .f32⟩
  | .hbm, ⟨24, _⟩ => ⟨S16x8x256x1, .f32⟩
  | .hbm, ⟨25, _⟩ => ⟨S16x8x256x256, .f32⟩
  | .hbm, ⟨26, _⟩ => ⟨S16x8x256x256, .f32⟩
  | .hbm, ⟨27, _⟩ => ⟨S16x8x64x256, .f32⟩
  | .hbm, ⟨28, _⟩ => ⟨S16x256x8x64, .f32⟩
  | .hbm, ⟨29, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S16x6144 : Shape := ⟨2, ![16, 6144]⟩
abbrev S1024x4096 : Shape := ⟨2, ![1024, 4096]⟩
abbrev S4096x1024 : Shape := ⟨2, ![4096, 1024]⟩
abbrev S1x1024 : Shape := ⟨2, ![1, 1024]⟩
abbrev S16x6x1024 : Shape := ⟨3, ![16, 6, 1024]⟩
abbrev S6x16x1024 : Shape := ⟨3, ![6, 16, 1024]⟩
abbrev S6x16x1x1024 : Shape := ⟨4, ![6, 16, 1, 1024]⟩
abbrev S512x1024 : Shape := ⟨2, ![512, 1024]⟩
abbrev S1x1x1x1024 : Shape := ⟨4, ![1, 1, 1, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S16x6x1024, .f32⟩
  | .hbm, ⟨7, _⟩ => ⟨S6x16x1024, .f32⟩
  | .hbm, ⟨8, _⟩ => ⟨S6x16x1x1024, .f32⟩
  | .hbm, ⟨9, _⟩ => ⟨S1024x4096, .bf16⟩
  | .hbm, ⟨10, _⟩ => ⟨S4096x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c3_i32 : BitVec 32 := 3#32
  let c0_i32_5 : BitVec 32 := 0#32
  let c0_i32_6 : BitVec 32 := 0#32
  let c0_i32_7 : BitVec 32 := 0#32
  ![c3_i32.toNat, v18.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c4_i32 : BitVec 32 := 4#32
  let c0_i32_5 : BitVec 32 := 0#32
  let c0_i32_6 : BitVec 32 := 0#32
  let c0_i32_7 : BitVec 32 := 0#32
  ![c4_i32.toNat, v18.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c5_i32 : BitVec 32 := 5#32
  let c0_i32_5 : BitVec 32 := 0#32
  let c0_i32_6 : BitVec 32 := 0#32
  let c0_i32_7 : BitVec 32 := 0#32
  ![c5_i32.toNat, v18.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S16384x1024 : Shape := ⟨2, ![16384, 1024]⟩
abbrev S1024 : Shape := ⟨1, ![1024]⟩
abbrev S16x6144 : Shape := ⟨2, ![16, 6144]⟩
abbrev S1024x4096 : Shape := ⟨2, ![1024, 4096]⟩
abbrev S4096x1024 : Shape := ⟨2, ![4096, 1024]⟩
abbrev S8x6144 : Shape := ⟨2, ![8, 6144]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x4096, .f32⟩
  | .hbm, ⟨4, _⟩ => ⟨S4096x1024, .f32⟩
  | .hbm, ⟨5, _⟩ => ⟨S8x6144, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x4096, .f32⟩
  | .hbm, ⟨38, _⟩ => ⟨S_, .f32⟩
  | .hbm, ⟨39, _⟩ => ⟨S8x2048x4096, .f32⟩
  | .hbm, ⟨40, _⟩ => ⟨S8x2048x4096, .f32⟩
  | .hbm, ⟨41, _⟩ => ⟨S8x2048x4096, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== InOdd.lean ====
abbrev S16384x1024 : Shape := ⟨2, ![16384, 1024]⟩
abbrev S1024 : Shape := ⟨1, ![1024]⟩
abbrev S16x6144 : Shape := ⟨2, ![16, 6144]⟩
abbrev S1024x4128 : Shape := ⟨2, ![1024, 4128]⟩
abbrev S_ : Shape := ⟨0, ![]⟩
abbrev S1024x4224 : Shape := ⟨2, ![1024, 4224]⟩
abbrev S1x1024 : Shape := ⟨2, ![1, 1024]⟩
abbrev S16x6x1024 : Shape := ⟨3, ![16, 6, 1024]⟩
abbrev S6x16x1024 : Shape := ⟨3, ![6, 16, 1024]⟩
abbrev S6x16x1x1024 : Shape := ⟨4, ![6, 16, 1, 1024]⟩
abbrev S16384x4224 : Shape := ⟨2, ![16384, 4224]⟩
abbrev S512x1024 : Shape := ⟨2, ![512, 1024]⟩
abbrev S1x1x1x1024 : Shape := ⟨4, ![1, 1, 1, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x4128, .f32⟩
  | .hbm, ⟨4, _⟩ => ⟨S_, .i32⟩
  | .hbm, ⟨5, _⟩ => ⟨S_, .f32⟩
  | .hbm, ⟨6, _⟩ => ⟨S1024x4224, .f32⟩
  | .hbm, ⟨7, _⟩ => ⟨S1024x4224, .bf16⟩
  | .hbm, ⟨8, _⟩ => ⟨S1x1024, .f32⟩
  | .hbm, ⟨9, _⟩ => ⟨S16x6x1024, .f32⟩
  | .hbm, ⟨10, _⟩ => ⟨S6x16x1024, .f32⟩
  | .hbm, ⟨11, _⟩ => ⟨S6x16x1x1024, .f32⟩
  | .hbm, ⟨12, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x1408, .bf16⟩
  | .local _ .vmem, ⟨8, _⟩ => ⟨S1024x1408, .bf16⟩
  | .local _ .vmem, ⟨9, _⟩ => ⟨S512x1408, .f32⟩
  | .local _ .vmem, ⟨10, _⟩ => ⟨S512x1408, .f32⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c0_i32_6 : BitVec 32 := 0#32
  let c0_i32_7 : BitVec 32 := 0#32
  let c0_i32_8 : BitVec 32 := 0#32
  ![c1_i32_5.toNat, v18.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InOddRefIdeal.lean ====
abbrev S16384x1024 : Shape := ⟨2, ![16384, 1024]⟩
abbrev S1024 : Shape := ⟨1, ![1024]⟩
abbrev S16x6144 : Shape := ⟨2, ![16, 6144]⟩
abbrev S1024x4128 : Shape := ⟨2, ![1024, 4128]⟩
abbrev S8x6144 : Shape := ⟨2, ![8, 6144]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4128 : Shape := ⟨3, ![8, 2048, 4128]⟩
abbrev S16384x4128 : Shape := ⟨2, ![16384, 4128]⟩
abbrev S16384x4224 : Shape := ⟨2, ![16384, 4224]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x4128, .f32⟩
  | .hbm, ⟨4, _⟩ => ⟨S8x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x4128, .f32⟩
  | .hbm, ⟨37, _⟩ => ⟨S16384x4128, .f32⟩
  | .hbm, ⟨38, _⟩ => ⟨S_, .i32⟩
  | .hbm, ⟨39, _⟩ => ⟨S_, .f32⟩
  | .hbm, ⟨40, _⟩ => ⟨S16384x4224, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_call0_v0 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== InEven.lean ====
abbrev S16384x1024 : Shape := ⟨2, ![16384, 1024]⟩
abbrev S1024 : Shape := ⟨1, ![1024]⟩
abbrev S16x6144 : Shape := ⟨2, ![16, 6144]⟩
abbrev S1024x2048 : Shape := ⟨2, ![1024, 2048]⟩
abbrev S1x1024 : Shape := ⟨2, ![1, 1024]⟩
abbrev S16x6x1024 : Shape := ⟨3, ![16, 6, 1024]⟩
abbrev S6x16x1024 : Shape := ⟨3, ![6, 16, 1024]⟩
abbrev S6x16x1x1024 : Shape := ⟨4, ![6, 16, 1, 1024]⟩
abbrev S16384x2048 : Shape := ⟨2, ![16384, 2048]⟩
abbrev S512x1024 : Shape := ⟨2, ![512, 1024]⟩
abbrev S1x1x1x1024 : Shape := ⟨4, ![1, 1, 1, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x2048, .f32⟩
  | .hbm, ⟨4, _⟩ => ⟨S1x1024, .f32⟩
  | .hbm, ⟨5, _⟩ => ⟨S16x6x1024, .f32⟩
  | .hbm, ⟨6, _⟩ => ⟨S6x16x1024, .f32⟩
  | .hbm, ⟨7, _⟩ => ⟨S6x16x1x1024, .f32⟩
  | .hbm, ⟨8, _⟩ => ⟨S1024x2048, .bf16⟩
  | .hbm, ⟨9, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  let c0_i32_8 : BitVec 32 := 0#32
  ![c0_i32_5.toNat, v18.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c1_i32_5 : BitVec 32 := 1#32
  let c0_i32_6 : BitVec 32 := 0#32
  let c0_i32_7 : BitVec 32 := 0#32
  let c0_i32_8 : BitVec 32 := 0#32
  ![c1_i32_5.toNat, v18.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InEvenRefIdeal.lean ====
abbrev S16384x1024 : Shape := ⟨2, ![16384, 1024]⟩
abbrev S1024 : Shape := ⟨1, ![1024]⟩
abbrev S16x6144 : Shape := ⟨2, ![16, 6144]⟩
abbrev S1024x2048 : Shape := ⟨2, ![1024, 2048]⟩
abbrev S8x6144 : Shape := ⟨2, ![8, 6144]⟩
abbrev S8x1x6144 : Shape := ⟨3, ![8, 1, 6144]⟩
abbrev S8x1x1024 : Shape := ⟨3, ![8, 1, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S16384x2048 : Shape := ⟨2, ![16384, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16x6144, .f32⟩
  | .hbm, ⟨3, _⟩ => ⟨S1024x2048, .f32⟩
  | .hbm, ⟨4, _⟩ => ⟨S8x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x2048, .f32⟩
  | .hbm, ⟨37, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== EvenOut.lean ====
abbrev S16384x1024 : Shape := ⟨2, ![16384, 1024]⟩
abbrev S8x2048x512 : Shape := ⟨3, ![8, 2048, 512]⟩
abbrev S16384x2048 : Shape := ⟨2, ![16384, 2048]⟩
abbrev S16384x512 : Shape := ⟨2, ![16384, 512]⟩
abbrev S512 : Shape := ⟨1, ![512]⟩
abbrev S512x512 : Shape := ⟨2, ![512, 512]⟩
abbrev S1024x1024 : Shape := ⟨2, ![1024, 1024]⟩
abbrev S16x6144 : Shape := ⟨2, ![16, 6144]⟩
abbrev S1x512 : Shape := ⟨2, ![1, 512]⟩
abbrev S16x6x1024 : Shape := ⟨3, ![16, 6, 1024]⟩
abbrev S6x16x1024 : Shape := ⟨3, ![6, 16, 1024]⟩
abbrev S6x16x1x1024 : Shape := ⟨4, ![6, 16, 1, 1024]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S8x2048x512, .f32⟩
  | .hbm, ⟨2, _⟩ => ⟨S16384x2048, .f32⟩
  | .hbm, ⟨3, _⟩ => ⟨S16384x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S16x6144, .f32⟩
  | .hbm, ⟨9, _⟩ => ⟨S16384x512, .f32⟩
  | .hbm, ⟨10, _⟩ => ⟨S1x512, .f32⟩
  | .hbm, ⟨11, _⟩ => ⟨S512x512, .bf16⟩
  | .hbm, ⟨12, _⟩ => ⟨S1x512, .f32⟩
  | .hbm, ⟨13, _⟩ => ⟨S1024x1024, .bf16⟩
  | .hbm, ⟨14, _⟩ => ⟨S16x6x1024, .f32⟩
  | .hbm, ⟨15, _⟩ => ⟨S6x16x1024, .f32⟩
  | .hbm, ⟨16, _⟩ => ⟨S6x16x1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S1024x1024, .bf16⟩
  | .local _ .vmem, ⟨12, _⟩ => ⟨S1x1x1x1024, .f32⟩
  | .local _ .vmem, ⟨13, _⟩ => ⟨S1x1x1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c2_i32 : BitVec 32 := 2#32
  let c0_i32_5 : BitVec 32 := 0#32
  let c0_i32_6 : BitVec 32 := 0#32
  let c0_i32_7 : BitVec 32 := 0#32
  ![c2_i32.toNat, v18.toNat, c0_i32_5.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== EvenOutRefIdeal.lean ====
abbrev S16384x1024 : Shape := ⟨2, ![16384, 1024]⟩
abbrev S8x2048x512 : Shape := ⟨3, ![8, 2048, 512]⟩
abbrev S16384x2048 : Shape := ⟨2, ![16384, 2048]⟩
abbrev S16384x512 : Shape := ⟨2, ![16384, 512]⟩
abbrev S512 : Shape := ⟨1, ![512]⟩
abbrev S512x512 : Shape := ⟨2, ![512, 512]⟩
abbrev S1024x1024 : Shape := ⟨2, ![1024, 1024]⟩
abbrev S16x6144 : Shape := ⟨2, ![16, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1x512 : Shape := ⟨3, ![1, 1, 512]⟩
abbrev S_ : Shape := ⟨0, ![]⟩
abbrev S8x2048x1024 : Shape := ⟨3, ![8, 2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x512, .f32⟩
  | .hbm, ⟨2, _⟩ => ⟨S16384x2048, .f32⟩
  | .hbm, ⟨3, _⟩ => ⟨S16384x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1024x1024, .f32⟩
  | .hbm, ⟨8, _⟩ => ⟨S16x6144, .f32⟩
  | .hbm, ⟨9, _⟩ => ⟨S8x6144, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S16384x512, .f32⟩
  | .hbm, ⟨18, _⟩ => ⟨S8x2048x512, .f32⟩
  | .hbm, ⟨19, _⟩ => ⟨S1x1x512, .f32⟩
  | .hbm, ⟨20, _⟩ => ⟨S8x2048x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S_, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S_, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S_, .f32⟩
  | .hbm, ⟨34, _⟩ => ⟨S8x2048x512, .f32⟩
  | .hbm, ⟨35, _⟩ => ⟨S8x2048x512, .f32⟩
  | .hbm, ⟨36, _⟩ => ⟨S_, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S1x1x512, .f32⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S8x2048x512, .f32⟩
  | .hbm, ⟨46, _⟩ => ⟨S_, .f32⟩
  | .hbm, ⟨47, _⟩ => ⟨S8x2048x512, .f32⟩
  | .hbm, ⟨48, _⟩ => ⟨S8x2048x512, .f32⟩
  | .hbm, ⟨49, _⟩ => ⟨S_, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x512, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== OddOut.lean ====
abbrev S16384x1024 : Shape := ⟨2, ![16384, 1024]⟩
abbrev S16384x4224 : Shape := ⟨2, ![16384, 4224]⟩
abbrev S128 : Shape := ⟨1, ![128]⟩
abbrev S1024x1024 : Shape := ⟨2, ![1024, 1024]⟩
abbrev S16x6144 : Shape := ⟨2, ![16, 6144]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S16x6x1024 : Shape := ⟨3, ![16, 6, 1024]⟩
abbrev S6x16x1024 : Shape := ⟨3, ![6, 16, 1024]⟩
abbrev S6x16x1x1024 : Shape := ⟨4, ![6, 16, 1, 1024]⟩
abbrev S512x1024 : Shape := ⟨2, ![512, 1024]⟩
abbrev S1x1x1x1024 : Shape := ⟨4, ![1, 1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x4224, .f32⟩
  | .hbm, ⟨4, _⟩ => ⟨S128, .f32⟩
  | .hbm, ⟨5, _⟩ => ⟨S1024x1024, .f32⟩
  | .hbm, ⟨6, _⟩ => ⟨S16x6144, .f32⟩
  | .hbm, ⟨7, _⟩ => ⟨S1x128, .f32⟩
  | .hbm, ⟨8, _⟩ => ⟨S8x128, .f32⟩
  | .hbm, ⟨9, _⟩ => ⟨S1024, .f32⟩
  | .hbm, ⟨10, _⟩ => ⟨S1x1024, .f32⟩
  | .hbm, ⟨11, _⟩ => ⟨S1024x1024, .bf16⟩
  | .hbm, ⟨12, _⟩ => ⟨S16x6x1024, .f32⟩
  | .hbm, ⟨13, _⟩ => ⟨S6x16x1024, .f32⟩
  | .hbm, ⟨14, _⟩ => ⟨S6x16x1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S1x1x1x1024, .f32⟩
  | .local _ .vmem, ⟨11, _⟩ => ⟨S1x1x1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c2_i32 : BitVec 32 := 2#32
  let c0_i32_5 : BitVec 32 := 0#32
  let c0_i32_6 : BitVec 32 := 0#32
  let c0_i32_7 : BitVec 32 := 0#32
  ![c2_i32.toNat, v18.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddOutRefIdeal.lean ====
abbrev S16384x1024 : Shape := ⟨2, ![16384, 1024]⟩
abbrev S16384x4224 : Shape := ⟨2, ![16384, 4224]⟩
abbrev S128 : Shape := ⟨1, ![128]⟩
abbrev S1024x1024 : Shape := ⟨2, ![1024, 1024]⟩
abbrev S16x6144 : Shape := ⟨2, ![16, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x1024 : Shape := ⟨3, ![8, 2048, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x4224, .f32⟩
  | .hbm, ⟨4, _⟩ => ⟨S128, .f32⟩
  | .hbm, ⟨5, _⟩ => ⟨S1024x1024, .f32⟩
  | .hbm, ⟨6, _⟩ => ⟨S16x6144, .f32⟩
  | .hbm, ⟨7, _⟩ => ⟨S8x6144, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S16384x1024, .f32⟩
  | .hbm, ⟨16, _⟩ => ⟨S8x2048x8x128, .f32⟩
  | .hbm, ⟨17, _⟩ => ⟨S8x2048x8x128, .f32⟩
  | .hbm, ⟨18, _⟩ => ⟨S8x2048x8x128, .f32⟩
  | .hbm, ⟨19, _⟩ => ⟨S8x2048x8x128, .f32⟩
  | .hbm, ⟨20, _⟩ => ⟨S8x2048x8x128, .f32⟩
  | .hbm, ⟨21, _⟩ => ⟨S_, .f32⟩
  | .hbm, ⟨22, _⟩ => ⟨S8x2048x8, .f32⟩
  | .hbm, ⟨23, _⟩ => ⟨S8x2048x8x1, .f32⟩
  | .hbm, ⟨24, _⟩ => ⟨S_, .f32⟩
  | .hbm, ⟨25, _⟩ => ⟨S8x2048x8x1, .f32⟩
  | .hbm, ⟨26, _⟩ => ⟨S8x2048x8x1, .f32⟩
  | .hbm, ⟨27, _⟩ => ⟨S_, .f32⟩
  | .hbm, ⟨28, _⟩ => ⟨S8x2048x8x1, .f32⟩
  | .hbm, ⟨29, _⟩ => ⟨S8x2048x8x1, .f32⟩
  | .hbm, ⟨30, _⟩ => ⟨S8x2048x8x1, .f32⟩
  | .hbm, ⟨31, _⟩ => ⟨S8x2048x8x128, .f32⟩
  | .hbm, ⟨32, _⟩ => ⟨S8x2048x8x128, .f32⟩
  | .hbm, ⟨33, _⟩ => ⟨S1x1x1x128, .f32⟩
  | .hbm, ⟨34, _⟩ => ⟨S8x2048x8x128, .f32⟩
  | .hbm, ⟨35, _⟩ => ⟨S8x2048x8x128, .f32⟩
  | .hbm, ⟨36, _⟩ => ⟨S8x2048x8x128, .f32⟩
  | .hbm, ⟨37, _⟩ => ⟨S8x2048x8x128, .f32⟩
  | .hbm, ⟨38, _⟩ => ⟨S_, .f32⟩
  | .hbm, ⟨39, _⟩ => ⟨S8x2048x8x128, .f32⟩
  | .hbm, ⟨40, _⟩ => ⟨S8x2048x8x128, .f32⟩
  | .hbm, ⟨41, _⟩ => ⟨S_, .f32⟩
  | .hbm, ⟨42, _⟩ => ⟨S8x2048x8x128, .f32⟩
  | .hbm, ⟨43, _⟩ => ⟨S8x2048x8x128, .f32⟩
  | .hbm, ⟨44, _⟩ => ⟨S8x2048x8x128, .f32⟩
  | .hbm, ⟨45, _⟩ => ⟨S8x2048x8x128, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Modulation.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1024x6144, .bf16⟩
  | .hbm, ⟨4, _⟩ => ⟨S2x1x6144, .f32⟩
  | .hbm, ⟨5, _⟩ => ⟨S2x16x6144, .f32⟩
  | .local _ .vmem, ⟨0, _⟩ => ⟨S16x1024, .f32⟩
  | .local _ .vmem, ⟨1, _⟩ => ⟨S1x1024x1536, .bf16⟩
  | .local _ .vmem, ⟨2, _⟩ => ⟨S1x1024x1536, .bf16⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== S5Scan.lean ====
abbrev S2x4x128x2048 : Shape := ⟨4, ![2, 4, 128, 2048]⟩
abbrev S4x8x2048 : Shape := ⟨3, ![4, 8, 2048]⟩
abbrev S2x4x8x2048 : Shape := ⟨4, ![2, 4, 8, 2048]⟩
abbrev S1x1x128x2048 : Shape := ⟨4, ![1, 1, 128, 2048]⟩
abbrev S1x8x2048 : Shape := ⟨3, ![1, 8, 2048]⟩
abbrev S1x1x8x2048 : Shape := ⟨4, ![1, 1, 8, 2048]⟩
abbrev S1x8x512 : Shape := ⟨3, ![1, 8, 512]⟩
abbrev S8x512 : Shape := ⟨2, ![8, 512]⟩
abbrev S1x1x8x512 : Shape := ⟨4, ![1, 1, 8, 512]⟩

abbrev nBuf : Space → Nat
  | .hbm => 5
  | .vmem => 10
  | .smem => 0
  | _ => 0

abbrev bufTy : (tb : Table) → Fin (tcTables nBuf tb) → BufTy
  | .hbm, ⟨0, _⟩ => ⟨S2x4x128x2048, .f32⟩
  | .hbm, ⟨1, _⟩ => ⟨S4x8x2048, .f32⟩
  | .hbm, ⟨2, _⟩ => ⟨S2x4x8x2048, .f32⟩
  | .hbm, ⟨3, _⟩ => ⟨S2x4x128x2048, .f32⟩
  | .hbm, ⟨4, _⟩ => ⟨S2x4x8x2048, .f32⟩
  | .local _ .vmem, ⟨0, _⟩ => ⟨S1x1x128x2048, .f32⟩
  | .local _ .vmem, ⟨1, _⟩ => ⟨S1x1x128x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x1x8x2048, .f32⟩
  | .local _ .vmem, ⟨5, _⟩ => ⟨S1x1x8x2048, .f32⟩
  | .local _ .vmem, ⟨6, _⟩ => ⟨S1x1x128x2048, .f32⟩
  | .local _ .vmem, ⟨7, _⟩ => ⟨S1x1x128x2048, .f32⟩
  | .local _ .vmem, ⟨8, _⟩ => ⟨S1x1x8x2048, .f32⟩
  | .local _ .vmem, ⟨9, _⟩ => ⟨S1x1x8x2048, .f32⟩
  | _, _ => ⟨S2x4x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c16_i32 : BitVec 32 := 16#32
  let v16 : BitVec 32 := Scalar.addi c0_i32 c16_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v30 : BitVec 32 := Scalar.muli arg7 c8_i32
  v30
def k0_mult2 (k0_t1 : Fin k0_t1_loop.trips) : BitVec 32 :=
  let c15_i32 : BitVec 32 := 15#32
  let c0_i32 : BitVec 32 := 0#32
  let c1_i32 : BitVec 32 := 1#32
  let arg7 : BitVec 32 := Scf.iv c0_i32 c1_i32 k0_t1
  let v32 : BitVec 32 := Scalar.subi c15_i32 arg7
  let c8_i32_41 : BitVec 32 := 8#32
  let v33 : BitVec 32 := Scalar.muli v32 c8_i32_41
  v33
def k0_off1 (k0_t1 : Fin k0_t1_loop.trips) : Fin 4 → Nat :=
  let c0_42 : Index := 0#32
  let c0_43 : Index := 0#32
  let c0_i32 : BitVec 32 := 0#32
  let c1_i32 : BitVec 32 := 1#32
  let arg7 : BitVec 32 := Scf.iv c0_i32 c1_i32 k0_t1
  let c8_i32 : BitVec 32 := 8#32
  let v30 : BitVec 32 := Scalar.muli arg7 c8_i32
  let v31 : BitVec 32 := v30
  let v35 : Index := Scalar.indexCast v31
  let c0_44 : Index := 0#32
  ![0, 0, v35.toNat, 0]
def k0_off2 (k0_t1 : Fin k0_t1_loop.trips) : Fin 4 → Nat :=
  let c0_45 : Index := 0#32
  let c0_46 : Index := 0#32
  let c0_i32 : BitVec 32 := 0#32
  let c1_i32 : BitVec 32 := 1#32
  let arg7 : BitVec 32 := Scf.iv c0_i32 c1_i32 k0_t1
  let c8_i32 : BitVec 32 := 8#32
  let v30 : BitVec 32 := Scalar.muli arg7 c8_i32
  let v31 : BitVec 32 := v30
  let v39 : Index := Scalar.indexCast v31
  let c512_47 : Index := 512#32
  ![0, 0, v39.toNat, 512]
def k0_off3 (k0_t1 : Fin k0_t1_loop.trips) : Fin 4 → Nat :=
  let c0_48 : Index := 0#32
  let c0_49 : Index := 0#32
  let c15_i32 : BitVec 32 := 15#32
  let c0_i32 : BitVec 32 := 0#32
  let c1_i32 : BitVec 32 := 1#32
  let arg7 : BitVec 32 := Scf.iv c0_i32 c1_i32 k0_t1
  let v32 : BitVec 32 := Scalar.subi c15_i32 arg7
  let c8_i32_41 : BitVec 32 := 8#32
  let v33 : BitVec 32 := Scalar.muli v32 c8_i32_41
  let v34 : BitVec 32 := v33
  let v43 : Index := Scalar.indexCast v34
  let c1024_50 : Index := 1024#32
  ![0, 0, v43.toNat, 1024]
def k0_off4 (k0_t1 : Fin k0_t1_loop.trips) : Fin 4 → Nat :=
  let c0_51 : Index := 0#32
  let c0_52 : Index := 0#32
  let c15_i32 : BitVec 32 := 15#32
  let c0_i32 : BitVec 32 := 0#32
  let c1_i32 : BitVec 32 := 1#32
  let arg7 : BitVec 32 := Scf.iv c0_i32 c1_i32 k0_t1
  let v32 : BitVec 32 := Scalar.subi c15_i32 arg7
  let c8_i32_41 : BitVec 32 := 8#32
  let v33 : BitVec 32 := Scalar.muli v32 c8_i32_41
  let v34 : BitVec 32 := v33
  let v47 : Index := Scalar.indexCast v34
  let c1536_53 : Index := 1536#32
  ![0, 0, v47.toNat, 1536]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== S5ScanRefIdeal.lean ====
abbrev S2x4x128x2048 : Shape := ⟨4, ![2, 4, 128, 2048]⟩
abbrev S4x8x2048 : Shape := ⟨3, ![4, 8, 2048]⟩
abbrev S2x4x8x2048 : Shape := ⟨4, ![2, 4, 8, 2048]⟩
abbrev S2x4x16x8x4x512 : Shape := ⟨6, ![2, 4, 16, 8, 4, 512]⟩
abbrev S2x4x16x8x2x512 : Shape := ⟨6, ![2, 4, 16, 8, 2, 512]⟩
abbrev S16x2x4x8x4x512 : Shape := ⟨6, ![16, 2, 4, 8, 4, 512]⟩
abbrev S4x8x4x512 : Shape := ⟨4, ![4, 8, 4, 512]⟩
abbrev S4x8x2x512 : Shape := ⟨4, ![4, 8, 2, 512]⟩
abbrev S2x4x8x4x512 : Shape := ⟨5, ![2, 4, 8, 4, 512]⟩
abbrev S2x4x8x2x512 : Shape := ⟨5, ![2, 4, 8, 2, 512]⟩
abbrev S_ : Shape := ⟨0, ![]⟩
abbrev S16x2x4x8x2x512 : Shape := ⟨6, ![16, 2, 4, 8, 2, 512]⟩
abbrev S1x2x4x8x4x512 : Shape := ⟨6, ![1, 2, 4, 8, 4, 512]⟩
abbrev S1x4x8x2x512 : Shape := ⟨5, ![1, 4, 8, 2, 512]⟩
abbrev S1x2x4x8x2x512 : Shape := ⟨6, ![1, 2, 4, 8, 2, 512]⟩
abbrev S16x2x4x8x1x512 : Shape := ⟨6, ![16, 2, 4, 8, 1, 512]⟩
abbrev S16x2x4x8x512 : Shape := ⟨5, ![16, 2, 4, 8, 512]⟩
abbrev S16x2x4x8x2048 : Shape := ⟨5, ![16, 2, 4, 8, 2048]⟩
abbrev S2x4x8x1x512 : Shape := ⟨5, ![2, 4, 8, 1, 512]⟩
abbrev S2x4x8x512 : Shape := ⟨4, ![2, 4, 8, 512]⟩
abbrev S2x4x16x8x2048 : Shape := ⟨5, ![2, 4, 16, 8, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2x4x128x2048, .f32⟩
  | .hbm, ⟨1, _⟩ => ⟨S4x8x2048, .f32⟩
  | .hbm, ⟨2, _⟩ => ⟨S2x4x8x2048, .f32⟩
  | .hbm, ⟨3, _⟩ => ⟨S2x4x16x8x4x512, .f32⟩
  | .hbm, ⟨4, _⟩ => ⟨S2x4x16x8x2x512, .f32⟩
  | .hbm, ⟨5, _⟩ => ⟨S2x4x16x8x2x512, .f32⟩
  | .hbm, ⟨6, _⟩ => ⟨S2x4x16x8x2x512, .f32⟩
  | .hbm, ⟨7, _⟩ => ⟨S2x4x16x8x4x512, .f32⟩
  | .hbm, ⟨8, _⟩ => ⟨S16x2x4x8x4x512, .f32⟩
  | .hbm, ⟨9, _⟩ => ⟨S4x8x4x512, .f32⟩
  | .hbm, ⟨10, _⟩ => ⟨S4x8x2x512, .f32⟩
  | .hbm, ⟨11, _⟩ => ⟨S4x8x2x512, .f32⟩
  | .hbm, ⟨12, _⟩ => ⟨S2x4x8x4x512, .f32⟩
  | .hbm, ⟨13, _⟩ => ⟨S2x4x8x2x512, .f32⟩
  | .hbm, ⟨14, _⟩ => ⟨S2x4x8x2x512, .f32⟩
  | .hbm, ⟨15, _⟩ => ⟨S_, .f32⟩
  | .hbm, ⟨16, _⟩ => ⟨S16x2x4x8x2x512, .f32⟩
  | .hbm, ⟨17, _⟩ => ⟨S_, .f32⟩
  | .hbm, ⟨18, _⟩ => ⟨S16x2x4x8x2x512, .f32⟩
  | .hbm, ⟨19, _⟩ => ⟨S_, .i32⟩
  | .hbm, ⟨20, _⟩ => ⟨S16x2x4x8x4x512, .f32⟩
  | .hbm, ⟨21, _⟩ => ⟨S4x8x2x512, .f32⟩
  | .hbm, ⟨22, _⟩ => ⟨S4x8x2x512, .f32⟩
  | .hbm, ⟨23, _⟩ => ⟨S_, .i32⟩
  | .hbm, ⟨24, _⟩ => ⟨S2x4x8x2x512, .f32⟩
  | .hbm, ⟨25, _⟩ => ⟨S2x4x8x2x512, .f32⟩
  | .hbm, ⟨26, _⟩ => ⟨S16x2x4x8x2x512, .f32⟩
  | .hbm, ⟨27, _⟩ => ⟨S16x2x4x8x2x512, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x2x4x8x4x512, .f32⟩
  | .hbm, ⟨36, _⟩ => ⟨S2x4x8x4x512, .f32⟩
  | .hbm, ⟨37, _⟩ => ⟨S1x4x8x2x512, .f32⟩
  | .hbm, ⟨38, _⟩ => ⟨S2x4x8x2x512, .f32⟩
  | .hbm, ⟨39, _⟩ => ⟨S2x4x8x2x512, .f32⟩
  | .hbm, ⟨40, _⟩ => ⟨S1x4x8x2x512, .f32⟩
  | .hbm, ⟨41, _⟩ => ⟨S2x4x8x2x512, .f32⟩
  | .hbm, ⟨42, _⟩ => ⟨S2x4x8x2x512, .f32⟩
  | .hbm, ⟨43, _⟩ => ⟨S2x4x8x2x512, .f32⟩
  | .hbm, ⟨44, _⟩ => ⟨S2x4x8x2x512, .f32⟩
  | .hbm, ⟨45, _⟩ => ⟨S2x4x8x2x512, .f32⟩
  | .hbm, ⟨46, _⟩ => ⟨S1x4x8x2x512, .f32⟩
  | .hbm, ⟨47, _⟩ => ⟨S2x4x8x2x512, .f32⟩
  | .hbm, ⟨48, _⟩ => ⟨S2x4x8x2x512, .f32⟩
  | .hbm, ⟨49, _⟩ => ⟨S1x4x8x2x512, .f32⟩
  | .hbm, ⟨50, _⟩ => ⟨S2x4x8x2x512, .f32⟩
  | .hbm, ⟨51, _⟩ => ⟨S2x4x8x2x512, .f32⟩
  | .hbm, ⟨52, _⟩ => ⟨S2x4x8x2x512, .f32⟩
  | .hbm, ⟨53, _⟩ => ⟨S2x4x8x2x512, .f32⟩
  | .hbm, ⟨54, _⟩ => ⟨S2x4x8x2x512, .f32⟩
  | .hbm, ⟨55, _⟩ => ⟨S1x2x4x8x2x512, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S16x2x4x8x2x512, .f32⟩
  | .hbm, ⟨62, _⟩ => ⟨S1x2x4x8x2x512, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S16x2x4x8x2x512, .f32⟩
  | .hbm, ⟨69, _⟩ => ⟨S_, .i32⟩
  | .hbm, ⟨70, _⟩ => ⟨S_, .i32⟩
  | .hbm, ⟨71, _⟩ => ⟨S16x2x4x8x1x512, .f32⟩
  | .hbm, ⟨72, _⟩ => ⟨S16x2x4x8x512, .f32⟩
  | .hbm, ⟨73, _⟩ => ⟨S16x2x4x8x1x512, .f32⟩
  | .hbm, ⟨74, _⟩ => ⟨S16x2x4x8x512, .f32⟩
  | .hbm, ⟨75, _⟩ => ⟨S16x2x4x8x1x512, .f32⟩
  | .hbm, ⟨76, _⟩ => ⟨S16x2x4x8x1x512, .f32⟩
  | .hbm, ⟨77, _⟩ => ⟨S16x2x4x8x512, .f32⟩
  | .hbm, ⟨78, _⟩ => ⟨S16x2x4x8x1x512, .f32⟩
  | .hbm, ⟨79, _⟩ => ⟨S16x2x4x8x1x512, .f32⟩
  | .hbm, ⟨80, _⟩ => ⟨S16x2x4x8x512, .f32⟩
  | .hbm, ⟨81, _⟩ => ⟨S16x2x4x8x2048, .f32⟩
  | .hbm, ⟨82, _⟩ => ⟨S2x4x8x1x512, .f32⟩
  | .hbm, ⟨83, _⟩ => ⟨S2x4x8x512, .f32⟩
  | .hbm, ⟨84, _⟩ => ⟨S2x4x8x1x512, .f32⟩
  | .hbm, ⟨85, _⟩ => ⟨S2x4x8x512, .f32⟩
  | .hbm, ⟨86, _⟩ => ⟨S2x4x8x1x512, .f32⟩
  | .hbm, ⟨87, _⟩ => ⟨S2x4x8x512, .f32⟩
  | .hbm, ⟨88, _⟩ => ⟨S2x4x8x1x512, .f32⟩
  | .hbm, ⟨89, _⟩ => ⟨S2x4x8x512, .f32⟩
  | .hbm, ⟨90, _⟩ => ⟨S2x4x8x2048, .f32⟩
  | .hbm, ⟨91, _⟩ => ⟨S2x4x16x8x2048, .f32⟩
  | .hbm, ⟨92, _⟩ => ⟨S2x4x128x2048, .f32⟩
  | _, _ => ⟨S2x4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_c : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev main_v14_7 : Ref sig .tc := ⟨.hbm, 27, rfl⟩
abbrev main_while0c_c_8 : Ref sig .tc := ⟨.hbm, 28, rfl⟩
abbrev main_while0c_v37 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_c_1 : Ref sig .tc := ⟨.hbm, 32, rfl⟩
abbrev main_while0b_call0_c_2 : Ref sig .tc := ⟨.hbm, 33, rfl⟩
abbrev main_while0b_call0_c_3 : Ref sig .tc := ⟨.hbm, 34, rfl⟩
abbrev main_while0b_call0_v0 : Ref sig .tc := ⟨.hbm, 35, rfl⟩
abbrev main_while0b_v37 : Ref sig .tc := ⟨.hbm, 36, rfl⟩
abbrev main_while0b_v38 : Ref sig .tc := ⟨.hbm, 37, rfl⟩
abbrev main_while0b_v39 : Ref sig .tc := ⟨.hbm, 38, rfl⟩
abbrev main_while0b_v40 : Ref sig .tc := ⟨.hbm, 39, rfl⟩
abbrev main_while0b_v41 : Ref sig .tc := ⟨.hbm, 40, rfl⟩
abbrev main_while0b_v42 : Ref sig .tc := ⟨.hbm, 41, rfl⟩
abbrev main_while0b_v43 : Ref sig .tc := ⟨.hbm, 42, rfl⟩
abbrev main_while0b_v44 : Ref sig .tc := ⟨.hbm, 43, rfl⟩
abbrev main_while0b_v45 : Ref sig .tc := ⟨.hbm, 44, rfl⟩
abbrev main_while0b_v46 : Ref sig .tc := ⟨.hbm, 45, rfl⟩
abbrev main_while0b_v47 : Ref sig .tc := ⟨.hbm, 46, rfl⟩
abbrev main_while0b_v48 : Ref sig .tc := ⟨.hbm, 47, rfl⟩
abbrev main_while0b_v49 : Ref sig .tc := ⟨.hbm, 48, rfl⟩
abbrev main_while0b_v50 : Ref sig .tc := ⟨.hbm, 49, rfl⟩
abbrev main_while0b_v51 : Ref sig .tc := ⟨.hbm, 50, rfl⟩
abbrev main_while0b_v52 : Ref sig .tc := ⟨.hbm, 51, rfl⟩
abbrev main_while0b_v53 : Ref sig .tc := ⟨.hbm, 52, rfl⟩
abbrev main_while0b_v54 : Ref sig .tc := ⟨.hbm, 53, rfl⟩
abbrev main_while0b_v55 : Ref sig .tc := ⟨.hbm, 54, rfl⟩
abbrev main_while0b_call1_v0 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_c_2 : Ref sig .tc := ⟨.hbm, 59, rfl⟩
abbrev main_while0b_call1_c_3 : Ref sig .tc := ⟨.hbm, 60, rfl⟩
abbrev main_while0b_v56 : Ref sig .tc := ⟨.hbm, 61, rfl⟩
abbrev main_while0b_call2_v0 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_c_2 : Ref sig .tc := ⟨.hbm, 66, rfl⟩
abbrev main_while0b_call2_c_3 : Ref sig .tc := ⟨.hbm, 67, rfl⟩
abbrev main_while0b_v57 : Ref sig .tc := ⟨.hbm, 68, rfl⟩
abbrev main_while0b_c_8 : Ref sig .tc := ⟨.hbm, 69, rfl⟩
abbrev main_while0b_v58 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩

abbrev nD : Nat := 1
abbrev τ : Topo := Topo.v7x

variable {F : FTy → Type} [FloatOps F]

abbrev main_while0_count : Scf.Loop 32 := ⟨0#32, 16#32, 1#32⟩
-- ==== FinalNorm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x1024 : Shape := ⟨2, ![16384, 1024]⟩
abbrev S1024 : Shape := ⟨1, ![1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S8x2048x1024, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Softmax.lean ====
module

public import Idealize.ShloMosaic.Lib.Pointwise
public import Idealize.ShloMosaic.Lib.Claim

@[expose] public section

noncomputable section

namespace Cert.Softmax

open Idealize.ShloMosaic

/-- Dividing by a real that is not zero is multiplying by its inverse, a real. -/
theorem div_real (x : EReal) {r : ℝ} (hr : r ≠ 0) : Ideal.div x (r : EReal) = x * ((r⁻¹ : ℝ) : EReal) := by
  unfold Ideal.div
  rw [if_neg (by exact_mod_cast hr), EReal.coe_inv]

/-- A sum over a nonnegative real may be divided term by term, whatever the terms. -/
theorem sum_mul_real {n : ℕ} (f : Fin n → EReal) {c : ℝ} (hc : 0 ≤ c) : (∑ k, f k) * (c : EReal) = ∑ k, f k * (c : EReal) := by
  induction (Finset.univ : Finset (Fin n)) using Finset.induction_on with
  | empty => simp
  | insert a s ha ih =>
    rw [Finset.sum_insert ha, Finset.sum_insert ha,
      EReal.right_distrib_of_nonneg_of_ne_top (by exact_mod_cast hc) (EReal.coe_ne_top c), ih]

/-- A sum of reals, taken among the extended reals, is the sum of the reals. -/
theorem sum_real {n : ℕ} (f : Fin n → ℝ) : (∑ k, (f k : EReal)) = ((∑ k, f k : ℝ) : EReal) := by
  induction (Finset.univ : Finset (Fin n)) using Finset.induction_on with
  | empty => simp
  | insert a s ha ih => rw [Finset.sum_insert ha, Finset.sum_insert ha, ih, EReal.coe_add]

/-- The maximum of finitely many reals, at least one, is a real. -/
theorem max_real {n : ℕ} (hn : 0 < n) (f : Fin n → ℝ) : ∃ r : ℝ, Finset.univ.fold max (⊥ : EReal) (fun k => (f k : EReal)) = (r : EReal) := by
  have h1 : Finset.univ.fold max (⊥ : EReal) (fun k => (f k : EReal)) < ⊤ :=
    (Finset.fold_max_lt _).2 ⟨bot_lt_top, fun k _ => EReal.coe_lt_top _⟩
  have h2 : ⊥ < Finset.univ.fold max (⊥ : EReal) (fun k => (f k : EReal)) :=
    (Finset.lt_fold_max _).2 (Or.inr ⟨⟨0, hn⟩, Finset.mem_univ _, EReal.bot_lt_coe _⟩)
  exact ⟨_, (EReal.coe_toReal h1.ne h2.ne').symm⟩

/-- The weight of entry `k` before it is divided: the exponential of the score less the largest score. -/
def weight {n : ℕ} (s : Fin n → EReal) (k : Fin n) : EReal := Ideal.exp (s k - Finset.univ.fold max (⊥ : EReal) s)

/-- The softmax of the scores `s` applied to the values `v`. -/
def soft {n : ℕ} (s v : Fin n → EReal) : EReal := ∑ k, Ideal.div (weight s k) (∑ j, weight s j) * v k

/-- For real scores the weights are positive reals. -/
theorem weight_real {n : ℕ} (hn : 0 < n) (s : Fin n → EReal) (hs : ∀ k, ∃ r : ℝ, s k = (r : EReal)) :
    ∃ p : Fin n → ℝ, (∀ k, 0 < p k) ∧ ∀ k, weight s k = (p k : EReal) := by
  choose f hf using hs
  obtain rfl : s = fun k => (f k : EReal) := funext hf
  obtain ⟨r, hr⟩ := max_real hn f
  refine ⟨fun k => Real.exp (f k - r), fun k => Real.exp_pos _, fun k => ?_⟩
  unfold weight
  rw [hr, ← EReal.coe_sub]
  rfl

/-- For real scores the weighted values may be summed first and divided afterwards. -/
theorem div_soft {n : ℕ} (hn : 0 < n) (s v : Fin n → EReal) (hs : ∀ k, ∃ r : ℝ, s k = (r : EReal)) :
    Ideal.div (∑ k, weight s k * v k) (∑ k, weight s k) = soft s v := by
  obtain ⟨p, hp, h⟩ := weight_real hn s hs
  have hL : (∑ k, weight s k) = ((∑ k, p k : ℝ) : EReal) := by rw [← sum_real]; exact Finset.sum_congr rfl fun k _ => h k
  have hpos : 0 < ∑ k, p k := Finset.sum_pos (fun k _ => hp k) ⟨⟨0, hn⟩, Finset.mem_univ _⟩
  unfold soft
  rw [hL, div_real _ hpos.ne', sum_mul_real _ (inv_nonneg.2 hpos.le)]
  refine Finset.sum_congr rfl fun k _ => ?_
  rw [div_real _ hpos.ne', mul_right_comm]

/-- A product of two reals, summed, is a real. -/
theorem dot_real {n : ℕ} (a b : Fin n → EReal) (ha : ∀ k, ∃ r : ℝ, a k = (r : EReal)) (hb : ∀ k, ∃ r : ℝ, b k = (r : EReal)) :
    ∃ r : ℝ, (∑ k, a k * b k) = (r : EReal) := by
  choose f hf using ha
  choose g hg using hb
  refine ⟨∑ k, f k * g k, ?_⟩
  rw [← sum_real]
  exact Finset.sum_congr rfl fun k _ => by rw [hf, hg, ← EReal.coe_mul]

/-- Of 128 lanes of which the upper 64 are zeroed, the lower 64 make the sum. -/
theorem sum_low (f : Fin 128 → EReal) : (∑ l, (if l.val < 64 then f l else 0)) = ∑ d : Fin 64, f ⟨d.val, by omega⟩ := by
  refine (Fin.sum_univ_add (a := 64) (b := 64) fun l : Fin 128 => (if l.val < 64 then f l else 0)).trans ?_
  have hz : (∑ d : Fin 64, (if (Fin.natAdd 64 d : Fin 128).val < 64 then f (Fin.natAdd 64 d) else 0)) = 0 :=
    Finset.sum_eq_zero fun d _ => by rw [if_neg (by simp)]
  rw [hz, add_zero]
  exact Finset.sum_congr rfl fun d _ => by rw [if_pos (by simp)]; rfl

/-- Of 128 lanes of which the lower 64 are zeroed, the upper 64 make the sum. -/
theorem sum_high (f : Fin 128 → EReal) : (∑ l, (if 64 ≤ l.val then f l else 0)) = ∑ d : Fin 64, f ⟨64 + d.val, by omega⟩ := by
  refine (Fin.sum_univ_add (a := 64) (b := 64) fun l : Fin 128 => (if 64 ≤ l.val then f l else 0)).trans ?_
  have hz : (∑ d : Fin 64, (if 64 ≤ (Fin.castAdd 64 d : Fin 128).val then f (Fin.castAdd 64 d) else 0)) = 0 :=
    Finset.sum_eq_zero fun d _ => by rw [if_neg (by simp)]
  rw [hz, zero_add]
  exact Finset.sum_congr rfl fun d _ => by rw [if_pos (by simp)]; rfl

/-- The comparison of a lane's number with 64, as the kernel writes it. -/
theorem lane_lt : ∀ x : Fin 128, IntOp.cmpi CmpIPredicate.slt (BitVec.ofNat 32 x.val) 64#32 = if x.val < 64 then 1#1 else 0#1 := by
  decide +kernel

/-- The opposite comparison. -/
theorem lane_ge : ∀ x : Fin 128, IntOp.cmpi CmpIPredicate.sge (BitVec.ofNat 32 x.val) 64#32 = if 64 ≤ x.val then 1#1 else 0#1 := by
  decide +kernel

/-- The choice by lane: the first below lane 64, the second from there. -/
theorem select_lt (x : Fin 128) (a b : EReal) :
    Scalar.select (IntOp.cmpi CmpIPredicate.slt (BitVec.ofNat 32 x.val) 64#32) a b = if x.val < 64 then a else b := by
  rw [lane_lt]
  split <;> rfl

/-- The choice by lane: the first from lane 64, the second below it. -/
theorem select_ge (x : Fin 128) (a b : EReal) :
    Scalar.select (IntOp.cmpi CmpIPredicate.sge (BitVec.ofNat 32 x.val) 64#32) a b = if 64 ≤ x.val then a else b := by
  rw [lane_ge]
  split <;> rfl

/-- The word that starts a maximum is minus infinity. -/
theorem word_bot : Ideal.ofBits FTy.f32 0xFF800000#32 = ⊥ := by simp [Ideal.ofBits, Ideal.ieee]

/-- The word that the precondition compares with is infinity. -/
theorem word_top : Ideal.ofBits FTy.f32 0x7F800000#32 = ⊤ := by simp [Ideal.ofBits, Ideal.ieee]

/-- The factor of the queries is a real. -/
theorem word_scale : ∃ r : ℝ, Ideal.ofBits FTy.f32 0x3E000000#32 = (r : EReal) := by
  simp only [Ideal.ofBits, Ideal.ieee]
  rw [if_neg (by decide), if_neg (by decide)]
  exact ⟨_, rfl⟩

/-- The maximum that a reference takes over the last of four axes, from minus infinity. -/
theorem hostMax {n0 n1 n2 n3 : ℕ} {u : Shape} (s : FVec Ideal ⟨4, ![n0, n1, n2, n3]⟩ .f32)
    (h : (⟨4, ![n0, n1, n2, n3]⟩ : Shape).ReducesTo [3] ⟨3, ![n0, n1, n2]⟩) (hu : 0 < u.numel) (a : Fin n0) (b : Fin n1) (d : Fin n2) :
    Host.reduce (FloatOps.maximumf (F := Ideal) (φ := .f32)) s (constant u .f32 0xFF800000#32) h hu (ix3 a b d)
      = Finset.univ.fold max ⊥ fun k : Fin n3 => s (ix4 a b d k) := by
  rw [Host.reduce_eq_fold, ← word_bot]
  exact h.fold_fiber_r4_a3 (ix3 a b d) max _ s

/-- An entry of a table of rows and columns, by the numbers of its row and column. -/
theorem entry {n0 n1 : ℕ} (a : FVec Ideal ⟨2, ![n0, n1]⟩ .f32) {r r' : Fin n0} {c c' : Fin n1} (hr : r.val = r'.val) (hc : c.val = c'.val) :
    a (ix2 r c) = a (ix2 r' c') := by
  rw [Fin.ext hr, Fin.ext hc]

/-- A decided bit that is one: the statement holds. -/
theorem of_bit {p : Prop} [Decidable p] (h : BitVec.ofBool (decide p) = 1#1) : p := by
  by_contra hp
  simp [hp] at h

/-- An extended real whose absolute value is below infinity is a real. -/
theorem real_of_abs {x : EReal} (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

end Cert.Softmax

end
-- ==== Proof.CtxAttn.lean ====
module

public import proofs.«01_k».proof.Proof.Gen.CtxAttnIdeal.Value
public import proofs.«01_k».proof.Proof.Gen.CtxAttnRefIdeal.Run
public import Idealize.ShloMosaic.Lib.Pipeline.ValueKit
public import Idealize.ShloMosaic.Lib.Pointwise
public import Idealize.ShloMosaic.Lib.Claim
public import proofs.«01_k».proof.Proof.Softmax
public import proofs.«01_k».proof.Proof.Gen.Pre_finite_scores

@[expose] public section

set_option maxRecDepth 16384

noncomputable section

namespace Cert.CtxAttnProof

open Idealize.ShloMosaic Idealize.ShloMosaic.TcCoe Idealize.SL.Sem
open Idealize.ShloMosaic.Pipeline (Dat)
open Cert.Softmax

section Ref
open Cert.CtxAttnRefIdeal Cert.CtxAttnRefIdeal.Gen

/-- The scores of the reference: by sequence and head, query by key, the query scaled. -/
def SCORE (a0 : FVec Ideal S4096x2048 .f32) : FVec Ideal S16x8x256x256 .f32 :=
  (Host.dotGeneral dot_S16x256x8x64_S16x256x8x64_S16x8x256x256_3_3_1_1_02_02 none (mulf (shapeCast _ (extractStridedSlice S16x256x512 ![0, 0, 0] (extractStridedSlice S16x256x1536 ![0, 0, 512] (shapeCast _ a0 shapeCasts_S4096x2048_S16x256x2048) slices_S16x256x2048_S16x256x1536_0_0_512) slices_S16x256x1536_S16x256x512_0_0_0) shapeCasts_S16x256x512_S16x256x8x64) (broadcastInDim S16x256x8x64 ![] bcast_S_S16x256x8x64 (constant S_ .f32 0x3E000000#32))) (shapeCast _ (extractStridedSlice S16x256x512 ![0, 0, 512] (extractStridedSlice S16x256x1536 ![0, 0, 512] (shapeCast _ a0 shapeCasts_S4096x2048_S16x256x2048) slices_S16x256x2048_S16x256x1536_0_0_512) slices_S16x256x1536_S16x256x512_0_0_512) shapeCasts_S16x256x512_S16x256x8x64))

/-- The largest score of every row. -/
def LARGEST (s : FVec Ideal S16x8x256x256 .f32) : FVec Ideal S16x8x256 .f32 :=
  (Host.reduce FloatOps.maximumf s (constant S_ .f32 0xFF800000#32) reducesTo_S16x8x256x256_S16x8x256_d3 h_S_)

/-- The exponentials of the scores less the largest of their row. -/
def EXPS (s : FVec Ideal S16x8x256x256 .f32) (l : FVec Ideal S16x8x256 .f32) : FVec Ideal S16x8x256x256 .f32 :=
  (Host.exp (subf s (broadcastInDim S16x8x256x256 ![0, 1, 2, 3] bcast_S16x8x256x1_S16x8x256x256_0_1_2_3 (broadcastInDim S16x8x256x1 ![0, 1, 2] bcast_S16x8x256_S16x8x256x1_0_1_2 (maximumf (broadcastInDim S16x8x256 ![] bcast_S_S16x8x256 (constant S_ .f32 0xFF800000#32)) l)))))

/-- The values by the exponentials over their sums. -/
def OUT (e : FVec Ideal S16x8x256x256 .f32) (a0 : FVec Ideal S4096x2048 .f32) : FVec Ideal S4096x512 .f32 :=
  shapeCast _ (transpose S16x256x8x64 [0, 3, 1, 2] (Host.dotGeneral dot_S16x256x8x64_S16x8x256x256_S16x8x64x256_1_3_3_2_02_01 none (shapeCast _ (extractStridedSlice S16x256x512 ![0, 0, 1024] (extractStridedSlice S16x256x1536 ![0, 0, 512] (shapeCast _ a0 shapeCasts_S4096x2048_S16x256x2048) slices_S16x256x2048_S16x256x1536_0_0_512) slices_S16x256x1536_S16x256x512_0_0_1024) shapeCasts_S16x256x512_S16x256x8x64) (Host.divf e (broadcastInDim S16x8x256x256 ![0, 1, 2, 3] bcast_S16x8x256x1_S16x8x256x256_0_1_2_3 (broadcastInDim S16x8x256x1 ![0, 1, 2] bcast_S16x8x256_S16x8x256x1_0_1_2 (Host.reduceAdd e (constant S_ .f32 0x00000000#32) reducesTo_S16x8x256x256_S16x8x256_d3 h_S_))))) transposes_S16x8x64x256_S16x256x8x64_0_3_1_2) shapeCasts_S16x256x8x64_S4096x512

/-- The context attention of the reference: the softmax of the scores applied to the values. -/
def REF (a0 : FVec Ideal S4096x2048 .f32) : FVec Ideal S4096x512 .f32 :=
  OUT (EXPS (SCORE a0) (LARGEST (SCORE a0))) a0

/-- The reference program's result, in these terms. -/
theorem ref_eq (m : (ℓ : Loc nD τ sig) → Buf (Elt Ideal) ℓ) (c : Dev nD) : Value.res_main_v24 m c = REF (m ((c : Thread nD τ).loc main_arg0)) := by
  unfold Value.res_main_v24 REF OUT EXPS LARGEST SCORE
  rfl

/-- The largest score of a row, as a fold. -/
theorem largest_def (s : FVec Ideal S16x8x256x256 .f32) (b : Fin 16) (h : Fin 8) (i : Fin 256) :
    LARGEST s (ix3 b h i) = Finset.univ.fold max (⊥ : EReal) fun j => s (ix4 b h i j) := by
  unfold LARGEST
  rw [hostMax]

/-- One exponential of the reference, for any scores and any largest ones. -/
theorem exps_at (s : FVec Ideal S16x8x256x256 .f32) (l : FVec Ideal S16x8x256 .f32) (b : Fin 16) (h : Fin 8) (i j : Fin 256) :
    EXPS s l (ix4 b h i j) = Ideal.exp (s (ix4 b h i j) - max (Ideal.ofBits FTy.f32 0xFF800000#32) (l (ix3 b h i))) := by
  pointwise [EXPS]

/-- One exponential of the reference is the weight of its score. -/
theorem exps_def (s : FVec Ideal S16x8x256x256 .f32) (b : Fin 16) (h : Fin 8) (i j : Fin 256) :
    EXPS s (LARGEST s) (ix4 b h i j) = weight (fun j => s (ix4 b h i j)) j := by
  rw [exps_at, largest_def, word_bot, max_eq_right bot_le, weight]

/-- One score: a query by a key, over the 64 entries of a head. -/
theorem score_def (a : FVec Ideal S4096x2048 .f32) (b : Fin 16) (h : Fin 8) (i j : Fin 256) : SCORE a (ix4 b h i j) =
    ∑ d : Fin 64, a (ix2 ⟨b.val * 256 + i.val, by omega⟩ ⟨512 + (h.val * 64 + d.val), by omega⟩) * Ideal.ofBits FTy.f32 0x3E000000#32
      * a (ix2 ⟨b.val * 256 + j.val, by omega⟩ ⟨512 + (512 + (h.val * 64 + d.val)), by omega⟩) := by
  pointwise [SCORE]

/-- One entry of the result, for any exponentials. -/
theorem out_at (e : FVec Ideal S16x8x256x256 .f32) (a : FVec Ideal S4096x2048 .f32) (b : Fin 16) (h : Fin 8) (i : Fin 256) (d : Fin 64) :
    OUT e a (ix2 ⟨b.val * 256 + i.val, by omega⟩ ⟨h.val * 64 + d.val, by omega⟩) =
      ∑ j, a (ix2 ⟨b.val * 256 + j.val, by omega⟩ ⟨512 + (1024 + (h.val * 64 + d.val)), by omega⟩)
        * Ideal.div (e (ix4 b h i j)) (∑ j, e (ix4 b h i j)) := by
  pointwise [OUT]

/-- One entry of the reference: the softmax of a query's scores applied to a column of the values. -/
theorem ref_def (a : FVec Ideal S4096x2048 .f32) (b : Fin 16) (h : Fin 8) (i : Fin 256) (d : Fin 64) :
    REF a (ix2 ⟨b.val * 256 + i.val, by omega⟩ ⟨h.val * 64 + d.val, by omega⟩) =
      soft (fun j => SCORE a (ix4 b h i j)) fun j => a (ix2 ⟨b.val * 256 + j.val, by omega⟩ ⟨512 + (1024 + (h.val * 64 + d.val)), by omega⟩) := by
  rw [REF, out_at, soft]
  simp only [exps_def]
  exact Finset.sum_congr rfl fun j _ => mul_comm _ _

/-- The precondition: the queries and keys, columns 512 to 1535, are real. -/
theorem real_of_pre (a : FVec Ideal S4096x2048 .f32) (h : Cert.Pre_finite_scores.fn (F := Ideal) a = fun _ => 1#1)
    (i : Fin 4096) (x : Fin 2048) (h1 : 512 ≤ x.val) (h2 : x.val < 1536) : ∃ r : ℝ, a (ix2 i x) = (r : EReal) := by
  have e := congrFun h (ix2 i ⟨x.val - 512, by omega⟩)
  simp only [Cert.Pre_finite_scores.fn, pointwise, word_top] at e
  refine real_of_abs ?_
  have e' := of_bit e
  have hx : a (ix2 i x) = a (ix2 ⟨![0, 512] 0 + i.val, by show 0 + i.val < 4096; omega⟩ ⟨![0, 512] 1 + (x.val - 512), by show 512 + (x.val - 512) < 2048; omega⟩) :=
    entry a (by show i.val = 0 + i.val; omega) (by show x.val = 512 + (x.val - 512); omega)
  rw [hx]
  exact e'

/-- Then all the scores are real. -/
theorem score_real (a : FVec Ideal S4096x2048 .f32) (hpre : Cert.Pre_finite_scores.fn (F := Ideal) a = fun _ => 1#1)
    (b : Fin 16) (h : Fin 8) (i j : Fin 256) : ∃ r : ℝ, SCORE a (ix4 b h i j) = (r : EReal) := by
  rw [score_def]
  refine dot_real _ _ (fun d => ?_) fun d => real_of_pre a hpre _ _ (by show 512 ≤ 512 + (512 + (h.val * 64 + d.val)); omega)
    (by show 512 + (512 + (h.val * 64 + d.val)) < 1536; omega)
  obtain ⟨r, hr⟩ := real_of_pre a hpre ⟨b.val * 256 + i.val, by omega⟩ ⟨512 + (h.val * 64 + d.val), by omega⟩
    (by show 512 ≤ 512 + (h.val * 64 + d.val); omega) (by show 512 + (h.val * 64 + d.val) < 1536; omega)
  obtain ⟨s, hs⟩ := word_scale
  exact ⟨r * s, by rw [hr, hs, EReal.coe_mul]⟩

end Ref

section Kernel
open Cert.CtxAttnIdeal Cert.CtxAttnIdeal.Gen

variable (m : (ℓ : Loc nD τ sig) → Buf (Elt Ideal) ℓ)

/-- Block indices of the windows at every grid point: point `t` works on sequence `t / 4` and heads `2 (t % 4)` and the next. -/
theorem idx : ∀ t : Fin cfg0.N, win0_0.index t = ![t.val / 4, 4 + t.val % 4] ∧ win0_1.index t = ![t.val / 4, 8 + t.val % 4]
    ∧ win0_2.index t = ![t.val / 4, 12 + t.val % 4] ∧ win0_3.index t = ![t.val / 4, t.val % 4] :=
  (by decide +kernel : ∀ t : Fin grid0.N, _)

/-- A query's scores in the lower of the two heads of a block. -/
def lowScore (q k : FVec Ideal S256x128 .f32) (i j : Fin 256) : EReal :=
  ∑ d : Fin 64, q (ix2 i ⟨d.val, by omega⟩) * Ideal.ofBits FTy.f32 0x3E000000#32 * k (ix2 j ⟨d.val, by omega⟩)

/-- A query's scores in the upper of the two heads of a block. -/
def highScore (q k : FVec Ideal S256x128 .f32) (i j : Fin 256) : EReal :=
  ∑ d : Fin 64, q (ix2 i ⟨64 + d.val, by omega⟩) * Ideal.ofBits FTy.f32 0x3E000000#32 * k (ix2 j ⟨64 + d.val, by omega⟩)

/-- What the kernel computes for the lower head. -/
theorem low (q k v : FVec Ideal S256x128 .f32) (i : Fin 256) (x : Fin 128) : k0_pay5 (F := Ideal) q k v (ix2 i x) =
    Ideal.div (∑ j, weight (lowScore q k i) j * v (ix2 j x)) (∑ j, weight (lowScore q k i) j) := by
  pointwise [k0_pay5, k0_pay4, k0_pay3, k0_pay2]
  simp only [select_lt, sum_low, word_bot]
  rfl

/-- The weights that the kernel computes for the upper head. -/
theorem high (q k : FVec Ideal S256x128 .f32) (i j : Fin 256) : k0_pay6 (F := Ideal) q k (ix2 i j) = weight (highScore q k i) j := by
  pointwise [k0_pay6, k0_pay3, k0_pay2]
  simp only [select_ge, sum_high, word_bot]
  rfl

/-- The block that the kernel returns: the lower head's columns, and the upper head's. -/
theorem both (v : FVec Ideal S256x128 .f32) (u : FVec Ideal S256x128 .f32) (p : FVec Ideal S256x256 .f32) (i : Fin 256) (x : Fin 128) :
    k0_pay1 (F := Ideal) (k0_pay4 v) (iota .tc S1x128 32 [1] iota_S1x128_d1_w32) u p (ix2 i x) =
      if x.val < 64 then u (ix2 i x) else Ideal.div (∑ j, p (ix2 i j) * v (ix2 j x)) (∑ j, p (ix2 i j)) := by
  pointwise [k0_pay1, k0_pay4]
  exact select_lt _ _ _

/-- The grid has 64 points. -/
theorem lt_N (t : Fin cfg0.N) : t.val < 64 := lt_of_lt_of_eq t.isLt N_0

/-- The sequence that point `t` works on. -/
def seqOf (t : Fin cfg0.N) : Fin 16 := ⟨t.val / 4, by have := lt_N t; omega⟩

/-- The lower of the two heads that point `t` works on. -/
def headLow (t : Fin cfg0.N) : Fin 8 := ⟨2 * (t.val % 4), by omega⟩

/-- The upper of the two heads that point `t` works on. -/
def headHigh (t : Fin cfg0.N) : Fin 8 := ⟨2 * (t.val % 4) + 1, by omega⟩

/-- The queries that point `t` reads. -/
theorem queries (c : Dev nD) (t : Fin cfg0.N) (i : Fin 256) (l : Fin 128) : iblk m c 0 t (ix2 i l) =
    (m ((c : Thread nD τ).loc main_arg0)) (ix2 ⟨t.val / 4 * 256 + i.val, by have := lt_N t; omega⟩ ⟨(4 + t.val % 4) * 128 + l.val, by omega⟩) := by
  blk_simp [iblk, V, idx t]
  blk_ext [idx t]

/-- The keys that point `t` reads. -/
theorem keys (c : Dev nD) (t : Fin cfg0.N) (i : Fin 256) (l : Fin 128) : iblk m c 1 t (ix2 i l) =
    (m ((c : Thread nD τ).loc main_arg0)) (ix2 ⟨t.val / 4 * 256 + i.val, by have := lt_N t; omega⟩ ⟨(8 + t.val % 4) * 128 + l.val, by omega⟩) := by
  blk_simp [iblk, V, idx t]
  blk_ext [idx t]

/-- The values that point `t` reads. -/
theorem values (c : Dev nD) (t : Fin cfg0.N) (i : Fin 256) (l : Fin 128) : iblk m c 2 t (ix2 i l) =
    (m ((c : Thread nD τ).loc main_arg0)) (ix2 ⟨t.val / 4 * 256 + i.val, by have := lt_N t; omega⟩ ⟨(12 + t.val % 4) * 128 + l.val, by omega⟩) := by
  blk_simp [iblk, V, idx t]
  blk_ext [idx t]

/-- The scores of the lower head are the reference's. -/
theorem low_eq (c : Dev nD) (t : Fin cfg0.N) (i : Fin 256) : lowScore (iblk m c 0 t) (iblk m c 1 t) i =
    fun j => SCORE (m ((c : Thread nD τ).loc main_arg0)) (ix4 (seqOf t) (headLow t) i j) := by
  funext j
  rw [lowScore, score_def]
  refine Finset.sum_congr rfl fun d _ => congrArg₂ (fun a b : EReal => a * b) (congrArg (fun a : EReal => a * _) ?_) ?_
  · exact (queries m c t i _).trans (entry _ rfl (by show (4 + t.val % 4) * 128 + d.val = 512 + (2 * (t.val % 4) * 64 + d.val); omega))
  · exact (keys m c t j _).trans (entry _ rfl (by show (8 + t.val % 4) * 128 + d.val = 512 + (512 + (2 * (t.val % 4) * 64 + d.val)); omega))

/-- The scores of the upper head are the reference's. -/
theorem high_eq (c : Dev nD) (t : Fin cfg0.N) (i : Fin 256) : highScore (iblk m c 0 t) (iblk m c 1 t) i =
    fun j => SCORE (m ((c : Thread nD τ).loc main_arg0)) (ix4 (seqOf t) (headHigh t) i j) := by
  funext j
  rw [highScore, score_def]
  refine Finset.sum_congr rfl fun d _ => congrArg₂ (fun a b : EReal => a * b) (congrArg (fun a : EReal => a * _) ?_) ?_
  · exact (queries m c t i _).trans (entry _ rfl (by show (4 + t.val % 4) * 128 + (64 + d.val) = 512 + ((2 * (t.val % 4) + 1) * 64 + d.val); omega))
  · exact (keys m c t j _).trans (entry _ rfl (by show (8 + t.val % 4) * 128 + (64 + d.val) = 512 + (512 + ((2 * (t.val % 4) + 1) * 64 + d.val)); omega))

/-- One entry of the block that point `t` returns is the reference's entry, the queries and keys being finite. -/
theorem point (c : Dev nD) (hpre : Cert.Pre_finite_scores.fn (F := Ideal) (m ((c : Thread nD τ).loc main_arg0)) = fun _ => 1#1) (t : Fin cfg0.N) (i : Fin 256) (x : Fin 128) :
    k0_pay1 (F := Ideal) (k0_pay4 (iblk m c 2 t)) (iota .tc S1x128 32 [1] iota_S1x128_d1_w32)
      (k0_pay5 (iblk m c 0 t) (iblk m c 1 t) (iblk m c 2 t)) (k0_pay6 (iblk m c 0 t) (iblk m c 1 t)) (ix2 i x) =
      REF (m ((c : Thread nD τ).loc main_arg0)) (ix2 ⟨t.val / 4 * 256 + i.val, by have := lt_N t; omega⟩ ⟨t.val % 4 * 128 + x.val, by omega⟩) := by
  have hr := fun h => score_real (m ((c : Thread nD τ).loc main_arg0)) hpre (seqOf t) h i
  rw [both]
  split
  · rename_i hx
    refine (low (iblk m c 0 t) (iblk m c 1 t) (iblk m c 2 t) i x).trans ?_
    rw [low_eq, div_soft (by decide) _ _ (hr (headLow t))]
    refine Eq.trans ?_ ((ref_def (m ((c : Thread nD τ).loc main_arg0)) (seqOf t) (headLow t) i ⟨x.val, hx⟩).symm.trans (entry _ rfl (by show 2 * (t.val % 4) * 64 + x.val = t.val % 4 * 128 + x.val; omega)))
    refine congrArg (soft _) (funext fun j => (values m c t j x).trans (entry _ rfl ?_))
    show (12 + t.val % 4) * 128 + x.val = 512 + (1024 + (2 * (t.val % 4) * 64 + x.val))
    omega
  · rename_i hx
    simp only [high]
    rw [high_eq, div_soft (by decide) _ _ (hr (headHigh t))]
    have hx' : x.val - 64 < 64 := by omega
    refine Eq.trans ?_ ((ref_def (m ((c : Thread nD τ).loc main_arg0)) (seqOf t) (headHigh t) i ⟨x.val - 64, hx'⟩).symm.trans (entry _ rfl (by show (2 * (t.val % 4) + 1) * 64 + (x.val - 64) = t.val % 4 * 128 + x.val; omega)))
    refine congrArg (soft _) (funext fun j => (values m c t j x).trans (entry _ rfl ?_))
    show (12 + t.val % 4) * 128 + x.val = 512 + (1024 + ((2 * (t.val % 4) + 1) * 64 + (x.val - 64)))
    omega

/-- The array that the kernel returns is the reference's, the queries and keys being finite. -/
theorem final (c : Dev nD) (hpre : Cert.Pre_finite_scores.fn (F := Ideal) (m ((c : Thread nD τ).loc main_arg0)) = fun _ => 1#1) :
    (dats m 0 c).arrAt 3 (cfgs 0).N = REF (m ((c : Thread nD τ).loc main_arg0)) := by
  refine (dats m 0 c).arrAt_eq_of_covers 3 _ (by decide +kernel) fun t hf y => ?_
  rw [after0_3]
  frame_out
  refine Eq.trans ?_ ((point m c hpre t (y 0) (y 1)).trans (congrArg (REF (m ((c : Thread nD τ).loc main_arg0))) ?_))
  · blk_ext! [idx t]
  · blk_ext! [idx t]

end Kernel

end Cert.CtxAttnProof

end
-- ==== Proof.Mlp.lean ====
module

public import proofs.«01_k».proof.Proof.Gen.MlpIdeal.Value
public import proofs.«01_k».proof.Proof.Gen.MlpRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MlpProof

open Idealize.ShloMosaic Idealize.ShloMosaic.TcCoe Idealize.SL.Sem
open Idealize.ShloMosaic.Pipeline (Dat)

section Ref
open Cert.MlpRefIdeal Cert.MlpRefIdeal.Gen

/-- The reference's normed and modulated rows. -/
def ROWS (a0 : FVec Ideal S16384x1024 .f32) (a1 : FVec Ideal S1024 .f32) (a2 : FVec Ideal S16x6144 .f32) : FVec Ideal S8x2048x1024 .f32 :=
  (addf (mulf (mulf (mulf (shapeCast _ a0 shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ a0 shapeCasts_S16384x1024_S8x2048x1024) (shapeCast _ a0 shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a1))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 4096] (shapeCast _ (extractStridedSlice S8x6144 ![1, 0] a2 slices_S16x6144_S8x6144_1_0) shapeCasts_S8x6144_S8x1x6144) slices_S8x1x6144_S8x1x1024_0_0_4096)))) (broadcastInDim S8x2048x1024 ![0, 1, 2] bcast_S8x1x1024_S8x2048x1024_0_1_2 (extractStridedSlice S8x1x1024 ![0, 0, 3072] (shapeCast _ (extractStridedSlice S8x6144 ![1, 0] a2 slices_S16x6144_S8x6144_1_0) shapeCasts_S8x6144_S8x1x6144) slices_S8x1x6144_S8x1x1024_0_0_3072)))

/-- The reference's hidden layer: the rows times the first weights, the negative entries replaced by zero. -/
def HID (a0 : FVec Ideal S16384x1024 .f32) (a1 : FVec Ideal S1024 .f32) (a2 : FVec Ideal S16x6144 .f32) (a3 : FVec Ideal S1024x4096 .f32) : FVec Ideal S8x2048x4096 .f32 :=
  (maximumf (Host.dotGeneral dot_S8x2048x1024_S1024x4096_S8x2048x4096_2_0_01_1_n_n none (ROWS a0 a1 a2) a3) (broadcastInDim S8x2048x4096 ![] bcast_S_S8x2048x4096 (constant S_ .f32 0x00000000#32)))

/-- The reference's result: the rows of `x` plus the gated product of the squared hidden layer and the second weights. -/
def REF (a0 : FVec Ideal S16384x1024 .f32) (a1 : FVec Ideal S1024 .f32) (a2 : FVec Ideal S16x6144 .f32) (a3 : FVec Ideal S1024x4096 .f32) (a4 : FVec Ideal S4096x1024 .f32) : FVec Ideal S16384x1024 .f32 :=
  shapeCast _ (addf (shapeCast _ a0 shapeCasts_S16384x1024_S8x2048x1024) (mulf (broadcastInDim S8x2048x1024 ![0, 1, 2] bcast_S8x1x1024_S8x2048x1024_0_1_2 (extractStridedSlice S8x1x1024 ![0, 0, 5120] (shapeCast _ (extractStridedSlice S8x6144 ![1, 0] a2 slices_S16x6144_S8x6144_1_0) shapeCasts_S8x6144_S8x1x6144) slices_S8x1x6144_S8x1x1024_0_0_5120)) (Host.dotGeneral dot_S8x2048x4096_S4096x1024_S8x2048x1024_2_0_01_1_n_n none (mulf (HID a0 a1 a2 a3) (HID a0 a1 a2 a3)) a4))) shapeCasts_S8x2048x1024_S16384x1024

end Ref

section Kernel
open Cert.MlpIdeal Cert.MlpIdeal.Gen

variable (m : (ℓ : Loc nD τ sig) → Buf (Elt Ideal) ℓ)

/-- Block indices of the windows at every grid point: point `t` works on row block `t / 4` and tile `t % 4` of the hidden
    layer, with the modulation rows of the sequence that holds the row block. -/
theorem idx : ∀ t : Fin cfg0.N, win0_0.index t = ![t.val / 4, 0] ∧ win0_1.index t = ![0, 0]
    ∧ win0_2.index t = ![3, 1 + t.val / 16, 0, 0] ∧ win0_3.index t = ![4, 1 + t.val / 16, 0, 0]
    ∧ win0_4.index t = ![5, 1 + t.val / 16, 0, 0] ∧ win0_5.index t = ![0, t.val % 4]
    ∧ win0_6.index t = ![t.val % 4, 0] ∧ win0_7.index t = ![t.val / 4, 0] :=
  (by decide +kernel : ∀ t : Fin grid0.N, _)

/-- The grid has 128 points. -/
theorem lt_N (t : Fin cfg0.N) : t.val < 128 := lt_of_lt_of_eq t.isLt N_0

/-- The normed and modulated rows at point `t`, as the first point of the row block computes them. -/
abbrev rows (c : Dev nD) (t : Fin cfg0.N) := k0_pay1 (F := Ideal) (iblk m c 0 t) (iblk m c 1 t) (iblk m c 3 t) (iblk m c 2 t)

/-- Within a row block the rows do not change from one point to the next. -/
theorem rows_pred (c : Dev nD) (n : ℕ) (h : n + 1 < cfg0.N) (h0 : ¬(n + 1) % 4 = 0) :
    rows m c ⟨n + 1, h⟩ = rows m c ⟨n, Nat.lt_of_succ_lt h⟩ := by
  have e : (n + 1) / 4 = n / 4 := by omega
  have e4 : (n + 1) / 16 = n / 16 := by omega
  have i0 : iblk m c 0 ⟨n + 1, h⟩ = iblk m c 0 ⟨n, Nat.lt_of_succ_lt h⟩ := by
    funext y; blk_ext! [iblk, V, idx ⟨n + 1, h⟩, idx ⟨n, Nat.lt_of_succ_lt h⟩]
  have i1 : iblk m c 1 ⟨n + 1, h⟩ = iblk m c 1 ⟨n, Nat.lt_of_succ_lt h⟩ := by
    funext y; blk_ext! [iblk, V, idx ⟨n + 1, h⟩, idx ⟨n, Nat.lt_of_succ_lt h⟩]
  have i2 : iblk m c 2 ⟨n + 1, h⟩ = iblk m c 2 ⟨n, Nat.lt_of_succ_lt h⟩ := by
    funext y; blk_ext! [iblk, V, idx ⟨n + 1, h⟩, idx ⟨n, Nat.lt_of_succ_lt h⟩]
  have i3 : iblk m c 3 ⟨n + 1, h⟩ = iblk m c 3 ⟨n, Nat.lt_of_succ_lt h⟩ := by
    funext y; blk_ext! [iblk, V, idx ⟨n + 1, h⟩, idx ⟨n, Nat.lt_of_succ_lt h⟩]
  unfold rows
  rw [i0, i1, i2, i3]

/-- The first carried scratch holds, after every point, the rows of the point's row block. -/
theorem scratch (c : Dev nD) : ∀ (n : ℕ) (h : n < cfg0.N), (outsAt0 m c n h).2.1 = rows m c ⟨n, h⟩ := by
  intro n
  induction n with
  | zero =>
    intro h
    rw [outsAt0_A m c ⟨0, h⟩ (Nat.zero_mod _) (show ¬0 % 4 = 3 by decide)]
    frame_out
  | succ n ih =>
    intro h
    by_cases h0 : (n + 1) % 4 = 0
    · rw [outsAt0_A m c ⟨n + 1, h⟩ h0 (by rw [h0]; decide)]
      frame_out
    · by_cases h1 : (n + 1) % 4 = 3
      · rw [outsAt0_C m c ⟨n + 1, h⟩ h0 h1, rows_pred m c n h h0, ← ih]
        rfl
      · rw [outsAt0_B m c ⟨n + 1, h⟩ h0 h1, rows_pred m c n h h0, ← ih]
        rfl

/-- What the point before left in the first scratch is the rows of the point, inside a row block. -/
theorem scratch_prev (c : Dev nD) (t : Fin cfg0.N) (h0 : ¬t.val % 4 = 0) :
    (outsAt0 m c (t.val - 1) (Nat.lt_of_le_of_lt (Nat.sub_le _ _) t.isLt)).2.1 = rows m c t := by
  rw [← scratch m c t.val t.isLt]
  by_cases h1 : t.val % 4 = 3
  · rw [outsAt0_C m c t h0 h1]; rfl
  · rw [outsAt0_B m c t h0 h1]; rfl

/-- The second scratch after the first point of a row block: the tile's product over zeros. -/
theorem acc_first (c : Dev nD) (t : Fin cfg0.N) (h0 : t.val % 4 = 0) :
    (outsAt0 m c t.val t.isLt).2.2 = k0_pay3 (F := Ideal) (rows m c t) (iblk m c 5 t) (k0_pay2 (F := Ideal)) (iblk m c 6 t) := by
  rw [outsAt0_A m c t h0 (by omega)]
  frame_out

/-- The second scratch after any other point: the tile's product over what the point before left. -/
theorem acc_next (c : Dev nD) (t : Fin cfg0.N) (h0 : ¬t.val % 4 = 0) :
    (outsAt0 m c t.val t.isLt).2.2 = k0_pay3 (F := Ideal) (rows m c t) (iblk m c 5 t)
      (outsAt0 m c (t.val - 1) (Nat.lt_of_le_of_lt (Nat.sub_le _ _) t.isLt)).2.2 (iblk m c 6 t) := by
  have hs := scratch_prev m c t h0
  by_cases h1 : t.val % 4 = 3
  · rw [outsAt0_C m c t h0 h1]
    frame_out
    rw [hs]
    exact congrArg₂ (fun r a => k0_pay3 (F := Ideal) r (iblk m c 5 t) a (iblk m c 6 t)) (Memref.IsWhole.read_unread _ _) (Memref.IsWhole.read_unread _ _)
  · rw [outsAt0_B m c t h0 h1]
    frame_out
    rw [hs]
    exact congrArg₂ (fun r a => k0_pay3 (F := Ideal) r (iblk m c 5 t) a (iblk m c 6 t)) (Memref.IsWhole.read_unread _ _) (Memref.IsWhole.read_unread _ _)

/-- What the last point of a row block writes: `x` plus the gate times the accumulated product. -/
theorem out_last (c : Dev nD) (t : Fin cfg0.N) (h1 : t.val % 4 = 3) :
    (outsAt0 m c t.val t.isLt).1 = k0_pay4 (F := Ideal) (iblk m c 0 t) (iblk m c 4 t) (outsAt0 m c t.val t.isLt).2.2 := by
  have h0 : ¬t.val % 4 = 0 := by omega
  rw [outsAt0_C m c t h0 h1]
  frame_out

/-- One entry of the hidden layer's tile at point `t`. -/
def hidden (c : Dev nD) (t : Fin cfg0.N) (r : Fin 512) (k : Fin 1024) : EReal :=
  max (∑ x : Fin 1024, rows m c t (ix2 r x) * iblk m c 5 t (ix2 x k)) 0

/-- What one tile of the hidden layer adds to an entry of the accumulated product. -/
def term (c : Dev nD) (t : Fin cfg0.N) (y : S512x1024.Idx) : EReal :=
  ∑ k : Fin 1024, (hidden m c t (y 0) k * hidden m c t (y 0) k) * iblk m c 6 t (ix2 k (y 1))

/-- One step of the accumulation at an entry: the tile's part is added. -/
theorem step (c : Dev nD) (t : Fin cfg0.N) (a : FVec Ideal S512x1024 .f32) (y : S512x1024.Idx) :
    k0_pay3 (F := Ideal) (rows m c t) (iblk m c 5 t) a (iblk m c 6 t) y = a y + term m c t y := by
  unfold term hidden
  generalize rows m c t = R
  pointwise [k0_pay3]

/-- The points of a row block are points of the grid. -/
theorem tile_lt (t : Fin cfg0.N) (s : Fin 4) : 4 * (t.val / 4) + s.val < cfg0.N := by
  have h := lt_N t
  have hs := s.isLt
  have hN : cfg0.N = 128 := N_0
  omega

/-- After the last point of a row block the second scratch holds the sum over the four tiles. -/
theorem acc (c : Dev nD) (t : Fin cfg0.N) (h1 : t.val % 4 = 3) (y : S512x1024.Idx) :
    (outsAt0 m c t.val t.isLt).2.2 y
      = ∑ s : Fin 4, term m c ⟨4 * (t.val / 4) + s.val, tile_lt t s⟩ y := by
  rw [Pipeline.eq_sum_fin_of_reset_step_apply_of_flush (fun n h => (outsAt0 m c n h).2.2) 4 (fun _ => (0 : EReal)) (term m c)
    (fun t h0 i => by
      show (outsAt0 m c t.val t.isLt).2.2 i = _
      rw [acc_first m c t h0, step]
      refine congrArg (· + term m c t i) ?_
      pointwise [k0_pay2])
    (fun t h0 i => by
      show (outsAt0 m c t.val t.isLt).2.2 i = _
      rw [acc_next m c t h0, step]) t h1 y, zero_add]

/-- The shift that point `t` reads is the modulation row of its sequence. -/
theorem shift (c : Dev nD) (t : Fin cfg0.N) (x : Fin 1024) : iblk m c 2 t (ix4 0 0 0 x) =
    m ((c : Thread nD τ).loc main_arg2) (ix2 ⟨1 + t.val / 16, by have := lt_N t; omega⟩ ⟨3072 + x.val, by omega⟩) := by
  blk_simp [iblk, V, idx t]
  entry_read
  pointwise
  blk_ext [idx t]

/-- The scale that point `t` reads is the modulation row of its sequence. -/
theorem scale (c : Dev nD) (t : Fin cfg0.N) (x : Fin 1024) : iblk m c 3 t (ix4 0 0 0 x) =
    m ((c : Thread nD τ).loc main_arg2) (ix2 ⟨1 + t.val / 16, by have := lt_N t; omega⟩ ⟨4096 + x.val, by omega⟩) := by
  blk_simp [iblk, V, idx t]
  entry_read
  pointwise
  blk_ext [idx t]

/-- The gate that point `t` reads is the modulation row of its sequence. -/
theorem gate (c : Dev nD) (t : Fin cfg0.N) (x : Fin 1024) : iblk m c 4 t (ix4 0 0 0 x) =
    m ((c : Thread nD τ).loc main_arg2) (ix2 ⟨1 + t.val / 16, by have := lt_N t; omega⟩ ⟨5120 + x.val, by omega⟩) := by
  blk_simp [iblk, V, idx t]
  entry_read
  pointwise
  blk_ext [idx t]

/-- The sequence that holds the row block of point `t`. -/
def seqOf (t : Fin cfg0.N) : Fin 8 := ⟨t.val / 16, by have := lt_N t; omega⟩

/-- The place in its sequence of row `r` of the row block of point `t`. -/
def posOf (t : Fin cfg0.N) (r : Fin 512) : Fin 2048 := ⟨t.val / 4 % 4 * 512 + r.val, by omega⟩

set_option maxHeartbeats 1000000 in
/-- The rows at point `t` are the reference's rows. -/
theorem rows_eq (c : Dev nD) (t : Fin cfg0.N) (r : Fin 512) (x : Fin 1024) :
    rows m c t (ix2 r x) = ROWS (m ((c : Thread nD τ).loc main_arg0)) (m ((c : Thread nD τ).loc main_arg1)) (m ((c : Thread nD τ).loc main_arg2)) (ix3 (seqOf t) (posOf t r) x) := by
  have ht := lt_N t
  unfold seqOf posOf
  pointwise [k0_pay1, ROWS]
  reads_congr
  · blk_ext! [iblk, V, idx t]
  · blk_ext! [iblk, V, idx t]
  · blk_ext! [iblk, V, idx t]
  · refine (scale m c t _).trans ?_
    blk_ext [idx t]
  · refine (shift m c t _).trans ?_
    blk_ext [idx t]

/-- The tile of the hidden layer at point `t` is that tile of the reference's hidden layer. -/
theorem hidden_eq (c : Dev nD) (t : Fin cfg0.N) (r : Fin 512) (k : Fin 1024) :
    hidden m c t r k = HID (m ((c : Thread nD τ).loc main_arg0)) (m ((c : Thread nD τ).loc main_arg1)) (m ((c : Thread nD τ).loc main_arg2)) (m ((c : Thread nD τ).loc main_arg3)) (ix3 (seqOf t) (posOf t r) ⟨t.val % 4 * 1024 + k.val, by omega⟩) := by
  unfold hidden
  pointwise [HID]
  refine congrArg (fun a : EReal => max a 0) (Finset.sum_congr rfl fun x _ => congrArg₂ (fun a b : EReal => a * b) (rows_eq m c t r x) ?_)
  blk_ext! [iblk, V, idx t]

/-- The accumulated product is the reference's product over the whole hidden layer. -/
theorem acc_eq (c : Dev nD) (t : Fin cfg0.N) (h1 : t.val % 4 = 3) (y : S512x1024.Idx) :
    (outsAt0 m c t.val t.isLt).2.2 y = ∑ l : Fin 4096, (HID (m ((c : Thread nD τ).loc main_arg0)) (m ((c : Thread nD τ).loc main_arg1)) (m ((c : Thread nD τ).loc main_arg2)) (m ((c : Thread nD τ).loc main_arg3)) (ix3 (seqOf t) (posOf t (y 0)) l)
      * HID (m ((c : Thread nD τ).loc main_arg0)) (m ((c : Thread nD τ).loc main_arg1)) (m ((c : Thread nD τ).loc main_arg2)) (m ((c : Thread nD τ).loc main_arg3)) (ix3 (seqOf t) (posOf t (y 0)) l)) * m ((c : Thread nD τ).loc main_arg4) (ix2 l (y 1)) := by
  rw [acc m c t h1]
  refine Fin.sum_mul_add_congr fun s k hl => ?_
  have hs := s.isLt
  have hh : hidden m c ⟨4 * (t.val / 4) + s.val, tile_lt t s⟩ (y 0) k
      = HID (m ((c : Thread nD τ).loc main_arg0)) (m ((c : Thread nD τ).loc main_arg1)) (m ((c : Thread nD τ).loc main_arg2)) (m ((c : Thread nD τ).loc main_arg3)) (ix3 (seqOf t) (posOf t (y 0)) ⟨s.val * 1024 + k.val, hl⟩) := by
    refine (hidden_eq m c _ _ _).trans ?_
    have e1 : seqOf ⟨4 * (t.val / 4) + s.val, tile_lt t s⟩ = seqOf t :=
      Fin.ext (by show (4 * (t.val / 4) + s.val) / 16 = t.val / 16; omega)
    have e2 : posOf ⟨4 * (t.val / 4) + s.val, tile_lt t s⟩ (y 0) = posOf t (y 0) :=
      Fin.ext (by show (4 * (t.val / 4) + s.val) / 4 % 4 * 512 + (y 0).val = t.val / 4 % 4 * 512 + (y 0).val; omega)
    rw [e1, e2]
    refine congrArg (fun q => HID (m ((c : Thread nD τ).loc main_arg0)) (m ((c : Thread nD τ).loc main_arg1)) (m ((c : Thread nD τ).loc main_arg2)) (m ((c : Thread nD τ).loc main_arg3)) (ix3 (seqOf t) (posOf t (y 0)) q)) (Fin.ext ?_)
    show (4 * (t.val / 4) + s.val) % 4 * 1024 + k.val = s.val * 1024 + k.val
    omega
  refine congrArg₂ (fun a b : EReal => a * a * b) hh ?_
  blk_ext! [iblk, V, idx ⟨4 * (t.val / 4) + s.val, tile_lt t s⟩]

/-- One block of the result is the reference at the block's rows. -/
theorem point (c : Dev nD) (t : Fin cfg0.N) (h1 : t.val % 4 = 3) (y) :
    (outsAt0 m c t.val t.isLt).1 y = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  rw [out_last m c t h1]
  have ha := acc_eq m c t h1 y
  revert ha
  generalize (outsAt0 m c t.val t.isLt).2.2 = a
  intro ha
  pointwise [k0_pay4, REF]
  refine congrArg₂ (fun a b : EReal => a + b) ?_ (congrArg₂ (fun a b : EReal => a * b) ?_ (ha.trans
    (Finset.sum_congr rfl fun l _ => congrArg₂ (fun a b : EReal => a * a * b) ?_ ?_)))
  · blk_ext! [iblk, V, idx t]
  · refine (gate m c t _).trans ?_
    blk_ext [idx t]
  · unfold seqOf posOf
    blk_ext [idx t]
  · blk_ext [idx t]

/-- The output array is the reference. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  exact point m c t ((flush0_7 t).mp hf) y

end Kernel

end Cert.MlpProof

end
-- ==== Proof.InOdd.lean ====
module

public import proofs.«01_k».proof.Proof.Gen.InOddIdeal.Value
public import proofs.«01_k».proof.Proof.Gen.InOddRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.InOddProof

open Idealize.ShloMosaic Idealize.ShloMosaic.TcCoe Idealize.SL.Sem
open Idealize.ShloMosaic.Pipeline (Dat)

section Ref
open Cert.InOddRefIdeal Cert.InOddRefIdeal.Gen

/-- The projection of an odd layer in the reference: the normed, modulated rows times the weights, padded by 96 columns. -/
def REF (a0 : FVec Ideal S16384x1024 .f32) (a1 : FVec Ideal S1024 .f32) (a2 : FVec Ideal S16x6144 .f32) (a3 : FVec Ideal S1024x4128 .f32) : FVec Ideal S16384x4224 .f32 :=
  pad S16384x4224 ![0, 0] ![0, 96] ![0, 0] (shapeCast _ (Host.dotGeneral dot_S8x2048x1024_S1024x4128_S8x2048x4128_2_0_01_1_n_n none (addf (mulf (mulf (mulf (shapeCast _ a0 shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ a0 shapeCasts_S16384x1024_S8x2048x1024) (shapeCast _ a0 shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a1))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (shapeCast _ (extractStridedSlice S8x6144 ![1, 0] a2 slices_S16x6144_S8x6144_1_0) shapeCasts_S8x6144_S8x1x6144) slices_S8x1x6144_S8x1x1024_0_0_1024)))) (broadcastInDim S8x2048x1024 ![0, 1, 2] bcast_S8x1x1024_S8x2048x1024_0_1_2 (extractStridedSlice S8x1x1024 ![0, 0, 0] (shapeCast _ (extractStridedSlice S8x6144 ![1, 0] a2 slices_S16x6144_S8x6144_1_0) shapeCasts_S8x6144_S8x1x6144) slices_S8x1x6144_S8x1x1024_0_0_0))) a3) shapeCasts_S8x2048x4128_S16384x4128) (sitofp .f32 (constantI S_ 32 0#32)) pads_S16384x4128_S16384x4224_000_0960 h_S_

end Ref

section Kernel
open Cert.InOddIdeal Cert.InOddIdeal.Gen

variable (m : (ℓ : Loc nD τ sig) → Buf (Elt Ideal) ℓ)

/-- Block indices of the windows at every grid point: point `t` works on row block `t / 3` and column block `t % 3`,
    and the modulation rows of the sequence that holds the row block. -/
theorem idx : ∀ t : Fin cfg0.N, win0_0.index t = ![t.val / 3, 0] ∧ win0_1.index t = ![0, 0]
    ∧ win0_2.index t = ![0, 1 + t.val / 12, 0, 0] ∧ win0_3.index t = ![1, 1 + t.val / 12, 0, 0]
    ∧ win0_4.index t = ![0, t.val % 3] ∧ win0_5.index t = ![t.val / 3, t.val % 3] :=
  (by decide +kernel : ∀ t : Fin grid0.N, _)

/-- The normed and modulated rows at point `t`, as the first point of the row block computes them. -/
abbrev rows (c : Dev nD) (t : Fin cfg0.N) := k0_pay1 (F := Ideal) (iblk m c 0 t) (iblk m c 1 t) (iblk m c 3 t) (iblk m c 2 t)

/-- Within a row block the rows do not change from one point to the next. -/
theorem rows_pred (c : Dev nD) (n : ℕ) (h : n + 1 < cfg0.N) (h0 : ¬(n + 1) % 3 = 0) :
    rows m c ⟨n + 1, h⟩ = rows m c ⟨n, Nat.lt_of_succ_lt h⟩ := by
  have e : (n + 1) / 3 = n / 3 := by omega
  have e4 : (n + 1) / 12 = n / 12 := by omega
  have i0 : iblk m c 0 ⟨n + 1, h⟩ = iblk m c 0 ⟨n, Nat.lt_of_succ_lt h⟩ := by
    funext y; blk_ext! [iblk, V, idx ⟨n + 1, h⟩, idx ⟨n, Nat.lt_of_succ_lt h⟩]
  have i1 : iblk m c 1 ⟨n + 1, h⟩ = iblk m c 1 ⟨n, Nat.lt_of_succ_lt h⟩ := by
    funext y; blk_ext! [iblk, V, idx ⟨n + 1, h⟩, idx ⟨n, Nat.lt_of_succ_lt h⟩]
  have i2 : iblk m c 2 ⟨n + 1, h⟩ = iblk m c 2 ⟨n, Nat.lt_of_succ_lt h⟩ := by
    funext y; blk_ext! [iblk, V, idx ⟨n + 1, h⟩, idx ⟨n, Nat.lt_of_succ_lt h⟩]
  have i3 : iblk m c 3 ⟨n + 1, h⟩ = iblk m c 3 ⟨n, Nat.lt_of_succ_lt h⟩ := by
    funext y; blk_ext! [iblk, V, idx ⟨n + 1, h⟩, idx ⟨n, Nat.lt_of_succ_lt h⟩]
  unfold rows
  rw [i0, i1, i2, i3]

/-- The carried scratch after every point holds the rows of the point's row block. -/
theorem scratch (c : Dev nD) : ∀ (n : ℕ) (h : n < cfg0.N), (outsAt0 m c n h).2 = rows m c ⟨n, h⟩ := by
  intro n
  induction n with
  | zero =>
    intro h
    rw [outsAt0_A m c ⟨0, h⟩ (Nat.zero_mod _)]
    frame_out
  | succ n ih =>
    intro h
    by_cases h0 : (n + 1) % 3 = 0
    · rw [outsAt0_A m c ⟨n + 1, h⟩ h0]
      frame_out
    · rw [outsAt0_B m c ⟨n + 1, h⟩ h0, rows_pred m c n h h0, ← ih]
      rfl

/-- What every point writes: its rows times its columns of the weights. -/
theorem out (c : Dev nD) (t : Fin cfg0.N) : (outsAt0 m c t.val t.isLt).1 = k0_pay2 (F := Ideal) (rows m c t) (iblk m c 4 t) := by
  by_cases h0 : t.val % 3 = 0
  · rw [outsAt0_A m c t h0]
    frame_out
  · have hs : (outsAt0 m c (t.val - 1) (Nat.lt_of_le_of_lt (Nat.sub_le _ _) t.isLt)).2 = rows m c t := by
      rw [← scratch m c t.val t.isLt, outsAt0_B m c t h0]
      rfl
    rw [outsAt0_B m c t h0]
    frame_out
    rw [hs]
    exact congrArg (fun r => k0_pay2 (F := Ideal) r (iblk m c 4 t)) (Memref.IsWhole.read_unread _ _)

/-- The shift that point `t` reads is the modulation row of its sequence. -/
theorem shift (c : Dev nD) (t : Fin cfg0.N) (x : Fin 1024) : iblk m c 2 t (ix4 0 0 0 x) =
    m ((c : Thread nD τ).loc main_arg2) (ix2 ⟨1 + t.val / 12, by have := t.isLt; have h : cfg0.N = 96 := N_0; omega⟩ ⟨x.val, by omega⟩) := by
  blk_simp [iblk, V, idx t]
  simp only [List.flatten_cons, List.flatten_nil, List.append_nil, List.cons_append, List.nil_append]
  entry_read
  pointwise
  blk_ext [idx t]

/-- The scale that point `t` reads is the modulation row of its sequence. -/
theorem scale (c : Dev nD) (t : Fin cfg0.N) (x : Fin 1024) : iblk m c 3 t (ix4 0 0 0 x) =
    m ((c : Thread nD τ).loc main_arg2) (ix2 ⟨1 + t.val / 12, by have := t.isLt; have h : cfg0.N = 96 := N_0; omega⟩ ⟨1024 + x.val, by omega⟩) := by
  blk_simp [iblk, V, idx t]
  simp only [List.flatten_cons, List.flatten_nil, List.append_nil, List.cons_append, List.nil_append]
  entry_read
  pointwise
  blk_ext [idx t]

/-- The integer zero converted, which the padding writes, is the real zero. -/
theorem sitofp_zero : (FloatOps.sitofp .f32 0#32 : Ideal .f32) = 0 := by
  show ((((0#32 : BitVec 32).toInt : ℤ) : ℝ) : EReal) = 0
  simp

/-- The padded weights at a block: its columns, and zeros beyond the last true column. -/
theorem padded (a : FVec Ideal S1024x4128 .f32) (t : Fin cfg0.N) (x : Fin 1024) (q : Fin 1408) :
    pad S1024x4224 ![0, 0] ![0, 96] ![0, 0] a (sitofp (F := Ideal) .f32 (constantI S_ 32 0#32))
      pads_S1024x4128_S1024x4224_000_0960 h_S_ (((View.whole main_v1).slice (win0_4.rect t)).emb (ix2 x q))
    = if h : t.val % 3 * 1408 + q.val < 4128 then a (ix2 x ⟨t.val % 3 * 1408 + q.val, h⟩) else (0 : EReal) := by
  have e : (((cfg0.win 4).blk t).view.emb (ix2 x q) 1).val = t.val % 3 * 1408 + q.val := by
    blk_simp [idx t]
  pointwise
  split
  · rename_i hc
    rw [dif_pos (e ▸ hc)]
    blk_ext [idx t]
  · rename_i hc
    rw [dif_neg (e ▸ hc)]
    exact sitofp_zero

/-- The weights that point `t` reads: its columns, and zeros beyond the last true column. -/
theorem weights (c : Dev nD) (t : Fin cfg0.N) (x : Fin 1024) (q : Fin 1408) : iblk m c 4 t (ix2 x q) =
    if h : t.val % 3 * 1408 + q.val < 4128 then m ((c : Thread nD τ).loc main_arg3) (ix2 x ⟨t.val % 3 * 1408 + q.val, h⟩) else (0 : EReal) := by
  blk_simp [iblk, V]
  simp only [List.flatten_cons, List.flatten_nil, List.append_nil, List.cons_append, List.nil_append]
  entry_read
  exact padded (m ((c : Thread nD τ).loc main_arg3)) t x q

/-- The gain that every point reads. -/
theorem gain (c : Dev nD) (t : Fin cfg0.N) (x : Fin 1024) : iblk m c 1 t (ix2 0 x) = m ((c : Thread nD τ).loc main_arg1) (ix1 x) := by
  blk_simp [iblk, V, idx t]
  simp only [List.flatten_cons, List.flatten_nil, List.append_nil, List.cons_append, List.nil_append]
  entry_read
  pointwise
  blk_ext [idx t]

set_option maxHeartbeats 1000000 in
/-- One block of the product is the reference at the block's rows and columns. -/
theorem point (c : Dev nD) (t : Fin cfg0.N) (y) :
    k0_pay2 (F := Ideal) (rows m c t) (iblk m c 4 t) y = REF (m ((c : Thread nD τ).loc main_arg0)) (m ((c : Thread nD τ).loc main_arg1)) (m ((c : Thread nD τ).loc main_arg2)) (m ((c : Thread nD τ).loc main_arg3)) (((cfg0.win 5).blk t).view.emb y) := by
  have e : (((cfg0.win 5).blk t).view.emb y 1).val = t.val % 3 * 1408 + (y 1).val := by
    blk_simp [idx t]
  pointwise [k0_pay2, k0_pay1, REF]
  split
  · rename_i hc
    have hc' : t.val % 3 * 1408 + (y 1).val < 4128 := e ▸ hc
    reads_congr
    · blk_ext! [iblk, V, idx t]
    · refine (gain m c t _).trans ?_
      blk_ext [idx t]
    · refine (scale m c t _).trans ?_
      blk_ext [idx t]
    · refine (shift m c t _).trans ?_
      blk_ext [idx t]
    · refine (weights m c t _ _).trans ?_
      rw [dif_pos hc']
      blk_ext [idx t]
  · rename_i hc
    have hc' : ¬ t.val % 3 * 1408 + (y 1).val < 4128 := e ▸ hc
    refine (Finset.sum_eq_zero fun x _ => ?_).trans sitofp_zero.symm
    exact (congrArg _ ((weights m c t x (y 1)).trans (dif_neg hc'))).trans (mul_zero _)

/-- The output array is the reference. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out]
  exact point m c t y

end Kernel

end Cert.InOddProof

end
-- ==== Proof.InEven.lean ====
module

public import proofs.«01_k».proof.Proof.Gen.InEvenIdeal.Value
public import proofs.«01_k».proof.Proof.Gen.InEvenRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.InEvenProof

open Idealize.ShloMosaic Idealize.ShloMosaic.TcCoe Idealize.SL.Sem
open Idealize.ShloMosaic.Pipeline (Dat)

section Ref
open Cert.InEvenRefIdeal Cert.InEvenRefIdeal.Gen

/-- The projection of an even layer in the reference: the normed, modulated rows times the weights. -/
def REF (a0 : FVec Ideal S16384x1024 .f32) (a1 : FVec Ideal S1024 .f32) (a2 : FVec Ideal S16x6144 .f32) (a3 : FVec Ideal S1024x2048 .f32) : FVec Ideal S16384x2048 .f32 :=
  shapeCast _ (Host.dotGeneral dot_S8x2048x1024_S1024x2048_S8x2048x2048_2_0_01_1_n_n none (addf (mulf (mulf (mulf (shapeCast _ a0 shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ a0 shapeCasts_S16384x1024_S8x2048x1024) (shapeCast _ a0 shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a1))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (shapeCast _ (extractStridedSlice S8x6144 ![1, 0] a2 slices_S16x6144_S8x6144_1_0) shapeCasts_S8x6144_S8x1x6144) slices_S8x1x6144_S8x1x1024_0_0_1024)))) (broadcastInDim S8x2048x1024 ![0, 1, 2] bcast_S8x1x1024_S8x2048x1024_0_1_2 (extractStridedSlice S8x1x1024 ![0, 0, 0] (shapeCast _ (extractStridedSlice S8x6144 ![1, 0] a2 slices_S16x6144_S8x6144_1_0) shapeCasts_S8x6144_S8x1x6144) slices_S8x1x6144_S8x1x1024_0_0_0))) a3) shapeCasts_S8x2048x2048_S16384x2048

end Ref

section Kernel
open Cert.InEvenIdeal Cert.InEvenIdeal.Gen

variable (m : (ℓ : Loc nD τ sig) → Buf (Elt Ideal) ℓ)

/-- Block indices of the windows at every grid point: point `t` works on row block `t / 2` and column block `t % 2`,
    and the modulation rows of the sequence that holds the row block. -/
theorem idx : ∀ t : Fin cfg0.N, win0_0.index t = ![t.val / 2, 0] ∧ win0_1.index t = ![0, 0]
    ∧ win0_2.index t = ![0, 1 + t.val / 8, 0, 0] ∧ win0_3.index t = ![1, 1 + t.val / 8, 0, 0]
    ∧ win0_4.index t = ![0, t.val % 2] ∧ win0_5.index t = ![t.val / 2, t.val % 2] :=
  (by decide +kernel : ∀ t : Fin grid0.N, _)

/-- The normed and modulated rows at point `t`, as the first point of the row block computes them. -/
abbrev rows (c : Dev nD) (t : Fin cfg0.N) := k0_pay1 (F := Ideal) (iblk m c 0 t) (iblk m c 1 t) (iblk m c 3 t) (iblk m c 2 t)

/-- Within a row block the rows do not change from one point to the next. -/
theorem rows_pred (c : Dev nD) (n : ℕ) (h : n + 1 < cfg0.N) (h0 : ¬(n + 1) % 2 = 0) :
    rows m c ⟨n + 1, h⟩ = rows m c ⟨n, Nat.lt_of_succ_lt h⟩ := by
  have e : (n + 1) / 2 = n / 2 := by omega
  have e4 : (n + 1) / 8 = n / 8 := by omega
  have i0 : iblk m c 0 ⟨n + 1, h⟩ = iblk m c 0 ⟨n, Nat.lt_of_succ_lt h⟩ := by
    funext y; blk_ext! [iblk, V, idx ⟨n + 1, h⟩, idx ⟨n, Nat.lt_of_succ_lt h⟩]
  have i1 : iblk m c 1 ⟨n + 1, h⟩ = iblk m c 1 ⟨n, Nat.lt_of_succ_lt h⟩ := by
    funext y; blk_ext! [iblk, V, idx ⟨n + 1, h⟩, idx ⟨n, Nat.lt_of_succ_lt h⟩]
  have i2 : iblk m c 2 ⟨n + 1, h⟩ = iblk m c 2 ⟨n, Nat.lt_of_succ_lt h⟩ := by
    funext y; blk_ext! [iblk, V, idx ⟨n + 1, h⟩, idx ⟨n, Nat.lt_of_succ_lt h⟩]
  have i3 : iblk m c 3 ⟨n + 1, h⟩ = iblk m c 3 ⟨n, Nat.lt_of_succ_lt h⟩ := by
    funext y; blk_ext! [iblk, V, idx ⟨n + 1, h⟩, idx ⟨n, Nat.lt_of_succ_lt h⟩]
  unfold rows
  rw [i0, i1, i2, i3]

/-- The carried scratch after every point holds the rows of the point's row block. -/
theorem scratch (c : Dev nD) : ∀ (n : ℕ) (h : n < cfg0.N), (outsAt0 m c n h).2 = rows m c ⟨n, h⟩ := by
  intro n
  induction n with
  | zero =>
    intro h
    rw [outsAt0_A m c ⟨0, h⟩ (Nat.zero_mod _)]
    frame_out
  | succ n ih =>
    intro h
    by_cases h0 : (n + 1) % 2 = 0
    · rw [outsAt0_A m c ⟨n + 1, h⟩ h0]
      frame_out
    · rw [outsAt0_B m c ⟨n + 1, h⟩ h0, rows_pred m c n h h0, ← ih]
      rfl

/-- What every point writes: its rows times its columns of the weights. -/
theorem out (c : Dev nD) (t : Fin cfg0.N) : (outsAt0 m c t.val t.isLt).1 = k0_pay2 (F := Ideal) (rows m c t) (iblk m c 4 t) := by
  by_cases h0 : t.val % 2 = 0
  · rw [outsAt0_A m c t h0]
    frame_out
  · have hs : (outsAt0 m c (t.val - 1) (Nat.lt_of_le_of_lt (Nat.sub_le _ _) t.isLt)).2 = rows m c t := by
      rw [← scratch m c t.val t.isLt, outsAt0_B m c t h0]
      rfl
    rw [outsAt0_B m c t h0]
    frame_out
    rw [hs]
    exact congrArg (fun r => k0_pay2 (F := Ideal) r (iblk m c 4 t)) (Memref.IsWhole.read_unread _ _)

/-- The shift that point `t` reads is the modulation row of its sequence. -/
theorem shift (c : Dev nD) (t : Fin cfg0.N) (x : Fin 1024) : iblk m c 2 t (ix4 0 0 0 x) =
    m ((c : Thread nD τ).loc main_arg2) (ix2 ⟨1 + t.val / 8, by have := t.isLt; have h : cfg0.N = 64 := N_0; omega⟩ ⟨x.val, by omega⟩) := by
  blk_simp [iblk, V, idx t]
  entry_read
  pointwise
  blk_ext [idx t]

/-- The scale that point `t` reads is the modulation row of its sequence. -/
theorem scale (c : Dev nD) (t : Fin cfg0.N) (x : Fin 1024) : iblk m c 3 t (ix4 0 0 0 x) =
    m ((c : Thread nD τ).loc main_arg2) (ix2 ⟨1 + t.val / 8, by have := t.isLt; have h : cfg0.N = 64 := N_0; omega⟩ ⟨1024 + x.val, by omega⟩) := by
  blk_simp [iblk, V, idx t]
  entry_read
  pointwise
  blk_ext [idx t]

set_option maxHeartbeats 1000000 in
/-- One block of the product is the reference at the block's rows and columns. -/
theorem point (c : Dev nD) (t : Fin cfg0.N) (y) :
    k0_pay2 (F := Ideal) (rows m c t) (iblk m c 4 t) y = REF (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, REF]
  reads_congr
  · blk_ext! [iblk, V, idx t]
  · blk_ext! [iblk, V, idx t]
  · refine (scale m c t _).trans ?_
    blk_ext [idx t]
  · refine (shift m c t _).trans ?_
    blk_ext [idx t]
  · blk_ext! [iblk, V, idx t]

/-- The output array is the reference. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out]
  exact point m c t y

end Kernel

end Cert.InEvenProof

end
-- ==== Proof.EvenOut.lean ====
module

public import proofs.«01_k».proof.Proof.Gen.EvenOutIdeal.Value
public import proofs.«01_k».proof.Proof.Gen.EvenOutRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.EvenOutProof

open Idealize.ShloMosaic Idealize.ShloMosaic.TcCoe Idealize.SL.Sem
open Idealize.ShloMosaic.Pipeline (Dat)

section Ref
open Cert.EvenOutRefIdeal Cert.EvenOutRefIdeal.Gen

/-- What the gelu of the reference is taken of: the scan's result plus the skip times the input. -/
def PRE (a1 : FVec Ideal S8x2048x512 .f32) (a2 : FVec Ideal S16384x2048 .f32) (a4 : FVec Ideal S512 .f32) : FVec Ideal S8x2048x512 .f32 :=
  (addf a1 (mulf (broadcastInDim S8x2048x512 ![0, 1, 2] bcast_S1x1x512_S8x2048x512_0_1_2 (broadcastInDim S1x1x512 ![2] bcast_S512_S1x1x512_2 a4)) (shapeCast _ (extractStridedSlice S16384x512 ![0, 0] a2 slices_S16384x2048_S16384x512_0_0) shapeCasts_S16384x512_S8x2048x512)))

/-- The reference's gelu, by the hyperbolic tangent. -/
def GELU (a1 : FVec Ideal S8x2048x512 .f32) (a2 : FVec Ideal S16384x2048 .f32) (a4 : FVec Ideal S512 .f32) : FVec Ideal S8x2048x512 .f32 :=
  (mulf (PRE a1 a2 a4) (mulf (broadcastInDim S8x2048x512 ![] bcast_S_S8x2048x512 (constant S_ .f32 0x3F000000#32)) (addf (broadcastInDim S8x2048x512 ![] bcast_S_S8x2048x512 (constant S_ .f32 0x3F800000#32)) (Host.tanh (mulf (broadcastInDim S8x2048x512 ![] bcast_S_S8x2048x512 (constant S_ .f32 0x3F4C422A#32)) (addf (PRE a1 a2 a4) (mulf (broadcastInDim S8x2048x512 ![] bcast_S_S8x2048x512 (constant S_ .f32 0x3D372713#32)) (mulf (mulf (PRE a1 a2 a4) (PRE a1 a2 a4)) (PRE a1 a2 a4)))))))))

/-- The two mixers' results side by side: the gated gelu, and the attention. -/
def CAT (a1 : FVec Ideal S8x2048x512 .f32) (a2 : FVec Ideal S16384x2048 .f32) (a3 : FVec Ideal S16384x512 .f32) (a4 : FVec Ideal S512 .f32) (a5 : FVec Ideal S512x512 .f32) (a6 : FVec Ideal S512 .f32) : FVec Ideal S8x2048x1024 .f32 :=
  (concatenate S8x2048x1024 2 [⟨S8x2048x512, (mulf (GELU a1 a2 a4) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (addf (Host.dotGeneral dot_S8x2048x512_S512x512_S8x2048x512_2_0_01_1_n_n none (GELU a1 a2 a4) a5) (broadcastInDim S8x2048x512 ![0, 1, 2] bcast_S1x1x512_S8x2048x512_0_1_2 (broadcastInDim S1x1x512 ![2] bcast_S512_S1x1x512_2 a6))))))))⟩, ⟨S8x2048x512, (shapeCast _ a3 shapeCasts_S16384x512_S8x2048x512)⟩] concatenates_S8x2048x512_S8x2048x512_S8x2048x1024_d2)

/-- The reference's result: `x` plus the gated product of the two mixers' results and the weights. -/
def REF (a0 : FVec Ideal S16384x1024 .f32) (a1 : FVec Ideal S8x2048x512 .f32) (a2 : FVec Ideal S16384x2048 .f32) (a3 : FVec Ideal S16384x512 .f32) (a4 : FVec Ideal S512 .f32) (a5 : FVec Ideal S512x512 .f32) (a6 : FVec Ideal S512 .f32) (a7 : FVec Ideal S1024x1024 .f32) (a8 : FVec Ideal S16x6144 .f32) : FVec Ideal S16384x1024 .f32 :=
  shapeCast _ (addf (shapeCast _ a0 shapeCasts_S16384x1024_S8x2048x1024) (mulf (broadcastInDim S8x2048x1024 ![0, 1, 2] bcast_S8x1x1024_S8x2048x1024_0_1_2 (extractStridedSlice S8x1x1024 ![0, 0, 2048] (shapeCast _ (extractStridedSlice S8x6144 ![1, 0] a8 slices_S16x6144_S8x6144_1_0) shapeCasts_S8x6144_S8x1x6144) slices_S8x1x6144_S8x1x1024_0_0_2048)) (Host.dotGeneral dot_S8x2048x1024_S1024x1024_S8x2048x1024_2_0_01_1_n_n none (CAT a1 a2 a3 a4 a5 a6) a7))) shapeCasts_S8x2048x1024_S16384x1024

/-- The reference program's result, in these terms. -/
theorem ref_eq (m : (ℓ : Loc nD τ sig) → Buf (Elt Ideal) ℓ) (c : Dev nD) : Value.res_main_v45 m c = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Value.res_main_v45 REF CAT GELU PRE
  rfl

end Ref

section Kernel
open Cert.EvenOutIdeal Cert.EvenOutIdeal.Gen

variable (m : (ℓ : Loc nD τ sig) → Buf (Elt Ideal) ℓ)

/-- Block indices of the windows at every grid point: point `t` works on row block `t`, with the gate of its sequence. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![2, 1 + t.val / 4, 0, 0] ∧ win0_9.index t = ![t.val, 0] :=
  (by decide +kernel : ∀ t : Fin grid0.N, _)

/-- The grid has 32 points. -/
theorem lt_N (t : Fin cfg0.N) : t.val < 32 := lt_of_lt_of_eq t.isLt N_0

/-- The gate that point `t` reads is the modulation row of its sequence. -/
theorem gate (c : Dev nD) (t : Fin cfg0.N) (x : Fin 1024) : iblk m c 8 t (ix4 0 0 0 x) =
    m ((c : Thread nD τ).loc main_arg8) (ix2 ⟨1 + t.val / 4, by have := lt_N t; omega⟩ ⟨2048 + x.val, by omega⟩) := by
  blk_simp [iblk, V, idx t]
  entry_read
  pointwise
  blk_ext [idx t]

/-- The sequence that holds the row block of point `t`. -/
def seqOf (t : Fin cfg0.N) : Fin 8 := ⟨t.val / 4, by have := lt_N t; omega⟩

/-- The place in its sequence of row `r` of the row block of point `t`. -/
def posOf (t : Fin cfg0.N) (r : Fin 512) : Fin 2048 := ⟨t.val % 4 * 512 + r.val, by omega⟩

/-- What the kernel takes the gelu of is what the reference takes it of. -/
theorem pre_point (c : Dev nD) (t : Fin cfg0.N) (r q : Fin 512) :
    @HAdd.hAdd EReal EReal EReal _ (iblk m c 1 t (ix2 r q)) (@HMul.hMul EReal EReal EReal _ (iblk m c 4 t (ix2 0 q)) (iblk m c 2 t (ix2 r q)))
      = PRE (m ((c : Thread nD τ).loc main_arg1)) (m ((c : Thread nD τ).loc main_arg2)) (m ((c : Thread nD τ).loc main_arg4)) (ix3 (seqOf t) (posOf t r) q) := by
  pointwise [PRE]
  refine congrArg₂ (fun a b : EReal => a + b) ?_ (congrArg₂ (fun a b : EReal => a * b) ?_ ?_)
  · blk_point [iblk, V, idx t, seqOf, posOf]
  · blk_point [iblk, V, idx t, seqOf, posOf]
  · blk_point [iblk, V, idx t, seqOf, posOf]

/-- The gelu as the kernel takes it, with the half in front. -/
def half (z : EReal) : EReal :=
  Ideal.ofBits FTy.f32 1056964608#32 * z * (1 + Ideal.tanh (Ideal.ofBits FTy.f32 1061962282#32 *
    (z + Ideal.ofBits FTy.f32 1027024659#32 * (z * z * z))))

/-- The kernel's gelu is the reference's: only the order of the factors differs. -/
theorem gelu_point (c : Dev nD) (t : Fin cfg0.N) (r q : Fin 512) :
    half (@HAdd.hAdd EReal EReal EReal _ (iblk m c 1 t (ix2 r q)) (@HMul.hMul EReal EReal EReal _ (iblk m c 4 t (ix2 0 q)) (iblk m c 2 t (ix2 r q))))
      = GELU (m ((c : Thread nD τ).loc main_arg1)) (m ((c : Thread nD τ).loc main_arg2)) (m ((c : Thread nD τ).loc main_arg4)) (ix3 (seqOf t) (posOf t r) q) := by
  refine (congrArg half (pre_point m c t r q)).trans ?_
  pointwise [GELU]
  unfold half
  rw [mul_comm (Ideal.ofBits FTy.f32 1056964608#32), mul_assoc]

/-- The two mixers' results side by side: the kernel's block of rows holds the reference's rows. -/
theorem cat_point (c : Dev nD) (t : Fin cfg0.N) (r : Fin 512) (q : Fin 1024) :
    k0_pay2 (F := Ideal) (iblk m c 1 t) (iblk m c 4 t) (iblk m c 2 t) (iblk m c 5 t) (iblk m c 6 t) (iblk m c 3 t) (ix2 r q)
      = CAT (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (seqOf t) (posOf t r) q) := by
  pointwise [k0_pay2, CAT]
  split
  · refine congrArg₂ (fun a b : EReal => a * b) (gelu_point m c t r _)
      (congrArg (fun s : EReal => Ideal.div 1 (1 + Ideal.exp s)) ((zero_sub _).trans (congrArg (fun s : EReal => -s) ?_)))
    refine congrArg₂ (fun a b : EReal => a + b) (Finset.sum_congr rfl fun l _ =>
      congrArg₂ (fun a b : EReal => a * b) (gelu_point m c t r l) ?_) ?_
    · blk_point [iblk, V, idx t]
    · blk_point [iblk, V, idx t]
  · blk_point [iblk, V, idx t, seqOf, posOf]

/-- One entry of the block that point `t` returns is the reference's entry. -/
theorem point (c : Dev nD) (t : Fin cfg0.N) (y : S512x1024.Idx) :
    k0_pay1 (F := Ideal) (k0_pay2 (iblk m c 1 t) (iblk m c 4 t) (iblk m c 2 t) (iblk m c 5 t) (iblk m c 6 t) (iblk m c 3 t))
      (iblk m c 0 t) (iblk m c 8 t) (iblk m c 7 t) y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y) := by
  pointwise [k0_pay1, REF]
  refine congrArg₂ (fun a b : EReal => a + b) ?_ (congrArg₂ (fun a b : EReal => a * b) ?_
    (Finset.sum_congr rfl fun l _ => congrArg₂ (fun a b : EReal => a * b) ?_ ?_))
  · blk_point [iblk, V, idx t]
  · refine (gate m c t _).trans ?_
    blk_ext! [idx t]
  · refine (cat_point m c t _ l).trans ?_
    generalize CAT (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = K
    blk_ext! [idx t, seqOf, posOf]
  · blk_point [iblk, V, idx t]

/-- The array that the kernel returns is the reference's. -/
theorem final (c : Dev nD) : (dats m 0 c).arrAt 9 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  rw [after0_9]
  frame_out
  exact point m c t y

end Kernel

end Cert.EvenOutProof

end
-- ==== Proof.OddOut.lean ====
module

public import proofs.«01_k».proof.Proof.Gen.OddOutIdeal.Value
public import proofs.«01_k».proof.Proof.Gen.OddOutRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.OddOutProof

open Idealize.ShloMosaic Idealize.ShloMosaic.TcCoe Idealize.SL.Sem
open Idealize.ShloMosaic.Pipeline (Dat)

section Ref
open Cert.OddOutRefIdeal Cert.OddOutRefIdeal.Gen

/-- The reference's rows before the product, by heads: the normed sum of the two scans, times the gain and the gate `silu z`. -/
def HEADS (a1 : FVec Ideal S16384x1024 .f32) (a2 : FVec Ideal S16384x1024 .f32) (a3 : FVec Ideal S16384x4224 .f32) (a4 : FVec Ideal S128 .f32) : FVec Ideal S8x2048x8x128 .f32 :=
  (mulf (mulf (mulf (addf (shapeCast _ a1 shapeCasts_S16384x1024_S8x2048x8x128) (shapeCast _ a2 shapeCasts_S16384x1024_S8x2048x8x128)) (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf (addf (shapeCast _ a1 shapeCasts_S16384x1024_S8x2048x8x128) (shapeCast _ a2 shapeCasts_S16384x1024_S8x2048x8x128)) (addf (shapeCast _ a1 shapeCasts_S16384x1024_S8x2048x8x128) (shapeCast _ a2 shapeCasts_S16384x1024_S8x2048x8x128))) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 a4))) (mulf (shapeCast _ (extractStridedSlice S16384x1024 ![0, 3072] a3 slices_S16384x4224_S16384x1024_0_3072) shapeCasts_S16384x1024_S8x2048x8x128) (Host.divf (broadcastInDim S8x2048x8x128 ![] bcast_S_S8x2048x8x128 (constant S_ .f32 0x3F800000#32)) (addf (broadcastInDim S8x2048x8x128 ![] bcast_S_S8x2048x8x128 (constant S_ .f32 0x3F800000#32)) (Host.exp (Host.negf (shapeCast _ (extractStridedSlice S16384x1024 ![0, 3072] a3 slices_S16384x4224_S16384x1024_0_3072) shapeCasts_S16384x1024_S8x2048x8x128)))))))

/-- The reference's result: `x` plus the gated product of the rows and the weights. -/
def REF (a0 : FVec Ideal S16384x1024 .f32) (a1 : FVec Ideal S16384x1024 .f32) (a2 : FVec Ideal S16384x1024 .f32) (a3 : FVec Ideal S16384x4224 .f32) (a4 : FVec Ideal S128 .f32) (a5 : FVec Ideal S1024x1024 .f32) (a6 : FVec Ideal S16x6144 .f32) : FVec Ideal S16384x1024 .f32 :=
  shapeCast _ (addf (shapeCast _ a0 shapeCasts_S16384x1024_S8x2048x1024) (mulf (broadcastInDim S8x2048x1024 ![0, 1, 2] bcast_S8x1x1024_S8x2048x1024_0_1_2 (extractStridedSlice S8x1x1024 ![0, 0, 2048] (shapeCast _ (extractStridedSlice S8x6144 ![1, 0] a6 slices_S16x6144_S8x6144_1_0) shapeCasts_S8x6144_S8x1x6144) slices_S8x1x6144_S8x1x1024_0_0_2048)) (Host.dotGeneral dot_S8x2048x1024_S1024x1024_S8x2048x1024_2_0_01_1_n_n none (shapeCast _ (HEADS a1 a2 a3 a4) shapeCasts_S8x2048x8x128_S8x2048x1024) a5))) shapeCasts_S8x2048x1024_S16384x1024

end Ref

section Kernel
open Cert.OddOutIdeal Cert.OddOutIdeal.Gen

variable (m : (ℓ : Loc nD τ sig) → Buf (Elt Ideal) ℓ)

/-- Block indices of the windows at every grid point: point `t` works on row block `t`, with the gate of its sequence. -/
theorem idx : ∀ t : Fin cfg0.N, win0_0.index t = ![t.val, 0] ∧ win0_1.index t = ![t.val, 0]
    ∧ win0_2.index t = ![t.val, 0] ∧ win0_3.index t = ![t.val, 3] ∧ win0_4.index t = ![0, 0] ∧ win0_5.index t = ![0, 0]
    ∧ win0_6.index t = ![2, 1 + t.val / 4, 0, 0] ∧ win0_7.index t = ![t.val, 0] :=
  (by decide +kernel : ∀ t : Fin grid0.N, _)

/-- The grid has 32 points. -/
theorem lt_N (t : Fin cfg0.N) : t.val < 32 := lt_of_lt_of_eq t.isLt N_0

/-- The gate that point `t` reads is the modulation row of its sequence. -/
theorem gate (c : Dev nD) (t : Fin cfg0.N) (x : Fin 1024) : iblk m c 6 t (ix4 0 0 0 x) =
    m ((c : Thread nD τ).loc main_arg6) (ix2 ⟨1 + t.val / 4, by have := lt_N t; omega⟩ ⟨2048 + x.val, by omega⟩) := by
  blk_simp [iblk, V, idx t]
  entry_read
  pointwise
  blk_ext [idx t]

/-- The gain that a point reads is the gain of the lane in its head. -/
theorem gain (c : Dev nD) (t : Fin cfg0.N) (x : Fin 1024) : iblk m c 4 t (ix2 0 x) =
    m ((c : Thread nD τ).loc main_arg4) (ix1 ⟨x.val % 128, by omega⟩) := by
  blk_simp [iblk, V, idx t]
  entry_read
  pointwise
  blk_ext [idx t]

/-- The sequence that holds the row block of point `t`. -/
def seqOf (t : Fin cfg0.N) : Fin 8 := ⟨t.val / 4, by have := lt_N t; omega⟩

/-- The place in its sequence of row `r` of the row block of point `t`. -/
def posOf (t : Fin cfg0.N) (r : Fin 512) : Fin 2048 := ⟨t.val % 4 * 512 + r.val, by omega⟩

/-- The rows normed head by head: every entry over the root of the mean square of the 128 lanes of its head. -/
def normed (v : FVec Ideal S512x1024 .f32) (r : Fin 512) (x : Fin 1024) : EReal :=
  v (ix2 r x) * Ideal.rsqrt (Ideal.div (∑ l : Fin 128, v (ix2 r ⟨x.val / 128 * 128 + l.val, by omega⟩) * v (ix2 r ⟨x.val / 128 * 128 + l.val, by omega⟩))
    (Ideal.ofBits .f32 0x43000000#32) + Ideal.ofBits .f32 0x358637BD#32)

/-- The block of `z` that a point reads: columns 3072 and on of the projections. -/
theorem zrow (c : Dev nD) (t : Fin cfg0.N) (r : Fin 512) (q : Fin 1024) : X0_3 m c t (ix2 r q) =
    m ((c : Thread nD τ).loc main_arg3) (ix2 ⟨t.val * 512 + r.val, by have := lt_N t; omega⟩ ⟨3072 + q.val, by omega⟩) := by
  unfold X0_3 Pipeline.Window.fill
  rw [dif_pos (moved0_3 t _)]
  blk_simp [iblk, V, idx t]
  blk_ext! [idx t]

/-- Head 0 of the block, normed. -/
theorem seg0 (a b : FVec Ideal S512x1024 .f32) (r : Fin 512) (q : Fin 128) (x : Fin 1024) (hx : x.val = 0 + q.val) :
    (k0_pay3 a b : FVec Ideal S512x128 .f32) (ix2 r q) = normed (k0_pay2 a b) r x := by
  obtain rfl : x = ⟨0 + q.val, by clear hx; omega⟩ := Fin.ext hx
  pointwise [k0_pay3]
  unfold normed
  generalize k0_pay2 (F := Ideal) a b = v
  reads_congr
  all_goals blk_ext!

/-- Head 1 of the block, normed. -/
theorem seg1 (a b : FVec Ideal S512x1024 .f32) (r : Fin 512) (q : Fin 128) (x : Fin 1024) (hx : x.val = 128 + q.val) :
    (k0_pay4 a b : FVec Ideal S512x128 .f32) (ix2 r q) = normed (k0_pay2 a b) r x := by
  obtain rfl : x = ⟨128 + q.val, by clear hx; omega⟩ := Fin.ext hx
  pointwise [k0_pay4]
  unfold normed
  generalize k0_pay2 (F := Ideal) a b = v
  reads_congr
  all_goals blk_ext!

/-- Head 2 of the block, normed. -/
theorem seg2 (a b : FVec Ideal S512x1024 .f32) (r : Fin 512) (q : Fin 128) (x : Fin 1024) (hx : x.val = 256 + q.val) :
    (k0_pay5 a b : FVec Ideal S512x128 .f32) (ix2 r q) = normed (k0_pay2 a b) r x := by
  obtain rfl : x = ⟨256 + q.val, by clear hx; omega⟩ := Fin.ext hx
  pointwise [k0_pay5]
  unfold normed
  generalize k0_pay2 (F := Ideal) a b = v
  reads_congr
  all_goals blk_ext!

/-- Head 3 of the block, normed. -/
theorem seg3 (a b : FVec Ideal S512x1024 .f32) (r : Fin 512) (q : Fin 128) (x : Fin 1024) (hx : x.val = 384 + q.val) :
    (k0_pay9 (k0_pay6 a b) (k0_pay7 a b) k0_pay8 : FVec Ideal S512x128 .f32) (ix2 r q) = normed (k0_pay2 a b) r x := by
  obtain rfl : x = ⟨384 + q.val, by clear hx; omega⟩ := Fin.ext hx
  pointwise [k0_pay9, k0_pay6, k0_pay7, k0_pay8]
  unfold normed
  generalize k0_pay2 (F := Ideal) a b = v
  reads_congr
  all_goals blk_ext!

/-- Head 4 of the block, normed. -/
theorem seg4 (a b : FVec Ideal S512x1024 .f32) (r : Fin 512) (q : Fin 128) (x : Fin 1024) (hx : x.val = 512 + q.val) :
    (k0_pay10 (k0_pay2 a b) : FVec Ideal S512x128 .f32) (ix2 r q) = normed (k0_pay2 a b) r x := by
  obtain rfl : x = ⟨512 + q.val, by clear hx; omega⟩ := Fin.ext hx
  pointwise [k0_pay10]
  unfold normed
  generalize k0_pay2 (F := Ideal) a b = v
  reads_congr
  all_goals blk_ext!

/-- Head 5 of the block, normed. -/
theorem seg5 (a b : FVec Ideal S512x1024 .f32) (r : Fin 512) (q : Fin 128) (x : Fin 1024) (hx : x.val = 640 + q.val) :
    (k0_pay11 (k0_pay2 a b) : FVec Ideal S512x128 .f32) (ix2 r q) = normed (k0_pay2 a b) r x := by
  obtain rfl : x = ⟨640 + q.val, by clear hx; omega⟩ := Fin.ext hx
  pointwise [k0_pay11]
  unfold normed
  generalize k0_pay2 (F := Ideal) a b = v
  reads_congr
  all_goals blk_ext!

/-- Head 6 of the block, normed. -/
theorem seg6 (a b : FVec Ideal S512x1024 .f32) (r : Fin 512) (q : Fin 128) (x : Fin 1024) (hx : x.val = 768 + q.val) :
    (k0_pay12 (k0_pay2 a b) : FVec Ideal S512x128 .f32) (ix2 r q) = normed (k0_pay2 a b) r x := by
  obtain rfl : x = ⟨768 + q.val, by clear hx; omega⟩ := Fin.ext hx
  pointwise [k0_pay12]
  unfold normed
  generalize k0_pay2 (F := Ideal) a b = v
  reads_congr
  all_goals blk_ext!

/-- Head 7 of the block, normed. -/
theorem seg7 (a b : FVec Ideal S512x1024 .f32) (r : Fin 512) (q : Fin 128) (x : Fin 1024) (hx : x.val = 896 + q.val) :
    (k0_pay13 (k0_pay2 a b) : FVec Ideal S512x128 .f32) (ix2 r q) = normed (k0_pay2 a b) r x := by
  obtain rfl : x = ⟨896 + q.val, by clear hx; omega⟩ := Fin.ext hx
  pointwise [k0_pay13]
  unfold normed
  generalize k0_pay2 (F := Ideal) a b = v
  reads_congr
  all_goals blk_ext!

/-- One entry of the rows before the product is the reference's: the eight heads side by side are the rows normed head by
    head, and the gain and the gate are those of the lane. -/
theorem heads_point (c : Dev nD) (t : Fin cfg0.N) (r : Fin 512) (x : Fin 1024) :
    @HMul.hMul EReal EReal EReal _ (@HMul.hMul EReal EReal EReal _ (normed (k0_pay2 (iblk m c 1 t) (iblk m c 2 t)) r x) (iblk m c 4 t (ix2 0 x)))
        (@HMul.hMul EReal EReal EReal _ (X0_3 m c t (ix2 r x)) (Ideal.div 1 (1 + Ideal.exp (0 - @id EReal (X0_3 m c t (ix2 r x))))))
      = HEADS (m ((c : Thread nD τ).loc main_arg1)) (m ((c : Thread nD τ).loc main_arg2)) (m ((c : Thread nD τ).loc main_arg3)) (m ((c : Thread nD τ).loc main_arg4)) (ix4 (seqOf t) (posOf t r) ⟨x.val / 128, by omega⟩ ⟨x.val % 128, by omega⟩) := by
  pointwise [HEADS]
  have hz : X0_3 m c t (ix2 r x) = m ((c : Thread nD τ).loc main_arg3) (ix2 ⟨(seqOf t).val * 2048 + (posOf t r).val, by omega⟩
      ⟨3072 + x.val, by omega⟩) := by
    refine (zrow m c t r x).trans ?_
    blk_ext! [seqOf, posOf]
  refine congrArg₂ (fun a b : EReal => a * b) (congrArg₂ (fun a b : EReal => a * b) ?_ (gain m c t x))
    (congrArg₂ (fun a b : EReal => a * b) hz (congrArg (fun s : EReal => Ideal.div 1 (1 + Ideal.exp s)) ((zero_sub _).trans (congrArg (fun s : EReal => -s) hz))))
  unfold normed
  pointwise [k0_pay2]
  reads_congr
  all_goals blk_ext! [iblk, V, idx t, seqOf, posOf]

set_option maxHeartbeats 1000000 in
/-- One entry of the block that point `t` returns is the reference's entry. -/
theorem point (c : Dev nD) (t : Fin cfg0.N) (y : S512x1024.Idx) :
    k0_pay1 (F := Ideal) (k0_pay3 (iblk m c 1 t) (iblk m c 2 t)) (k0_pay4 (iblk m c 1 t) (iblk m c 2 t))
        (k0_pay5 (iblk m c 1 t) (iblk m c 2 t))
        (k0_pay9 (k0_pay6 (iblk m c 1 t) (iblk m c 2 t)) (k0_pay7 (iblk m c 1 t) (iblk m c 2 t)) k0_pay8)
        (k0_pay10 (k0_pay2 (iblk m c 1 t) (iblk m c 2 t))) (k0_pay11 (k0_pay2 (iblk m c 1 t) (iblk m c 2 t)))
        (k0_pay12 (k0_pay2 (iblk m c 1 t) (iblk m c 2 t))) (k0_pay13 (k0_pay2 (iblk m c 1 t) (iblk m c 2 t)))
        (iblk m c 4 t) (X0_3 m c t) (iblk m c 0 t) (iblk m c 6 t) (iblk m c 5 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  pointwise [k0_pay1, REF]
  refine congrArg₂ (fun a b : EReal => a + b) ?_ (congrArg₂ (fun a b : EReal => a * b) ?_
    (Finset.sum_congr rfl fun l _ => congrArg₂ (fun a b : EReal => a * b) ?_ ?_))
  · blk_point [iblk, V, idx t]
  · refine (gate m c t _).trans ?_
    blk_ext! [idx t]
  · refine (congrArg (fun s : EReal => @HMul.hMul EReal EReal EReal _ (@HMul.hMul EReal EReal EReal _ s (iblk m c 4 t (ix2 0 l)))
        (@HMul.hMul EReal EReal EReal _ (X0_3 m c t (ix2 (y 0) l)) (Ideal.div 1 (1 + Ideal.exp (0 - @id EReal (X0_3 m c t (ix2 (y 0) l))))))) ?_).trans
      ((heads_point m c t (y 0) l).trans ?_)
    · have hl := l.isLt
      split
      · exact seg0 _ _ _ _ _ (by simp)
      split
      · exact seg1 _ _ _ _ _ (by simp only; omega)
      split
      · exact seg2 _ _ _ _ _ (by simp only; omega)
      split
      · exact seg3 _ _ _ _ _ (by simp only; omega)
      split
      · exact seg4 _ _ _ _ _ (by simp only; omega)
      split
      · exact seg5 _ _ _ _ _ (by simp only; omega)
      split
      · exact seg6 _ _ _ _ _ (by simp only; omega)
      · exact seg7 _ _ _ _ _ (by simp only; omega)
    · generalize HEADS (m ((c : Thread nD τ).loc main_arg1)) (m ((c : Thread nD τ).loc main_arg2)) (m ((c : Thread nD τ).loc main_arg3)) (m ((c : Thread nD τ).loc main_arg4)) = K
      blk_ext! [idx t, seqOf, posOf]
  · blk_point [iblk, V, idx t]

/-- The array that the kernel returns is the reference's. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  unfold outsAt0
  frame_out
  exact point m c t y

end Kernel

end Cert.OddOutProof

end
-- ==== Proof.Modulation.lean ====
module

public import proofs.«01_k».proof.Proof.Gen.ModulationIdeal.Value
public import proofs.«01_k».proof.Proof.Gen.ModulationRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ModulationProof

open Idealize.ShloMosaic Idealize.ShloMosaic.TcCoe Idealize.SL.Sem
open Idealize.ShloMosaic.Pipeline (Dat)

section Ref
open Cert.ModulationRefIdeal Cert.ModulationRefIdeal.Gen

/-- The modulation of the reference: for either layer the silu of the conditioning times the weights, plus the bias. -/
def REF (a0 : FVec Ideal S16x1024 .f32) (a1 : FVec Ideal S2x1024x6144 .f32) (a2 : FVec Ideal S2x6144 .f32) : FVec Ideal S2x16x6144 .f32 :=
  concatenate S2x16x6144 0 [⟨S1x16x6144, (broadcastInDim S1x16x6144 ![1, 2] bcast_S16x6144_S1x16x6144_1_2 (addf (Host.dotGeneral dot_S16x1024_S1024x6144_S16x6144_1_0_0_1_n_n none (mulf a0 (Host.divf (broadcastInDim S16x1024 ![] bcast_S_S16x1024 (constant S_ .f32 0x3F800000#32)) (addf (broadcastInDim S16x1024 ![] bcast_S_S16x1024 (constant S_ .f32 0x3F800000#32)) (Host.exp (Host.negf a0))))) (shapeCast _ (extractStridedSlice S1x1024x6144 ![0, 0, 0] a1 slices_S2x1024x6144_S1x1024x6144_0_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![0, 0] a2 slices_S2x6144_S1x6144_0_0) shapeCasts_S1x6144_S6144)))))⟩, ⟨S1x16x6144, (broadcastInDim S1x16x6144 ![1, 2] bcast_S16x6144_S1x16x6144_1_2 (addf (Host.dotGeneral dot_S16x1024_S1024x6144_S16x6144_1_0_0_1_n_n none (mulf a0 (Host.divf (broadcastInDim S16x1024 ![] bcast_S_S16x1024 (constant S_ .f32 0x3F800000#32)) (addf (broadcastInDim S16x1024 ![] bcast_S_S16x1024 (constant S_ .f32 0x3F800000#32)) (Host.exp (Host.negf a0))))) (shapeCast _ (extractStridedSlice S1x1024x6144 ![1, 0, 0] a1 slices_S2x1024x6144_S1x1024x6144_1_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![1, 0] a2 slices_S2x6144_S1x6144_1_0) shapeCasts_S1x6144_S6144)))))⟩] concatenates_S1x16x6144_S1x16x6144_S2x16x6144_d0

end Ref

section Kernel
open Cert.ModulationIdeal Cert.ModulationIdeal.Gen

variable (m : (ℓ : Loc nD τ sig) → Buf (Elt Ideal) ℓ)

/-- Block indices of the windows at every grid point: point `t` works on block `t % 4` of the columns of layer `t / 4`. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The grid has 8 points. -/
theorem lt_N (t : Fin cfg0.N) : t.val < 8 := lt_of_lt_of_eq t.isLt N_0

/-- The layer that point `t` works on. -/
def layer (t : Fin cfg0.N) : Fin 2 := ⟨t.val / 4, by have := lt_N t; omega⟩

/-- The column in the whole array of column `q` of the block of point `t`. -/
def col (t : Fin cfg0.N) (q : Fin 1536) : Fin 6144 := ⟨t.val % 4 * 1536 + q.val, by omega⟩

/-- The weights that point `t` reads. -/
theorem weights (c : Dev nD) (t : Fin cfg0.N) (x : Fin 1024) (q : Fin 1536) : iblk m c 1 t (ix3 0 x q) =
    m ((c : Thread nD τ).loc main_arg1) (ix3 (layer t) x (col t q)) := by
  blk_simp [iblk, V, idx t]
  entry_read
  pointwise
  blk_ext [idx t, layer, col]

/-- The bias that point `t` reads. -/
theorem bias (c : Dev nD) (t : Fin cfg0.N) (q : Fin 1536) : iblk m c 2 t (ix3 0 0 q) =
    m ((c : Thread nD τ).loc main_arg2) (ix2 (layer t) (col t q)) := by
  blk_simp [iblk, V, idx t]
  entry_read
  pointwise
  blk_ext [idx t, layer, col]

/-- The conditioning that every point reads. -/
theorem conds (c : Dev nD) (t : Fin cfg0.N) (r : Fin 16) (x : Fin 1024) : iblk m c 0 t (ix2 r x) =
    m ((c : Thread nD τ).loc main_arg0) (ix2 r x) := by
  blk_simp [iblk, V, idx t]
  blk_ext [idx t]

/-- The silu of equal numbers, the negation written as a difference on one side. -/
theorem silu {a b : EReal} (h : a = b) : a * Ideal.div 1 (1 + Ideal.exp (0 - a)) = b * Ideal.div 1 (1 + Ideal.exp (-b)) := by
  rw [h, zero_sub]

/-- One entry of the block that point `t` returns is the reference's entry. -/
theorem point (c : Dev nD) (t : Fin cfg0.N) (r : Fin 16) (q : Fin 1536) :
    k0_pay1 (F := Ideal) (iblk m c 0 t) (iblk m c 1 t) (iblk m c 2 t) (ix3 0 r q) =
      REF (m ((c : Thread nD τ).loc main_arg0)) (m ((c : Thread nD τ).loc main_arg1)) (m ((c : Thread nD τ).loc main_arg2)) (ix3 (layer t) r (col t q)) := by
  have hl : (layer t).val = t.val / 4 := rfl
  have hw := weights m c t
  have hb := bias m c t
  have hc := conds m c t
  have := lt_N t
  pointwise [k0_pay1, REF]
  split
  · rename_i h
    have e : layer t = 0 := Fin.ext (by have := h; simp at this; omega)
    rw [e] at hw hb
    exact congrArg₂ (fun a b : EReal => a + b) (Finset.sum_congr rfl fun l _ =>
      congrArg₂ (fun a b : EReal => a * b) (silu (hc r l)) (hw l q)) (hb q)
  · rename_i h
    have e : layer t = 1 := Fin.ext (by have := h; simp at this; omega)
    rw [e] at hw hb
    exact congrArg₂ (fun a b : EReal => a + b) (Finset.sum_congr rfl fun l _ =>
      congrArg₂ (fun a b : EReal => a * b) (silu (hc r l)) (hw l q)) (hb q)

/-- The array that the kernel returns is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  frame_out
  refine Eq.trans ?_ ((point m c t (y 1) (y 2)).trans (congrArg (REF (m ((c : Thread nD τ).loc main_arg0)) (m ((c : Thread nD τ).loc main_arg1)) (m ((c : Thread nD τ).loc main_arg2))) ?_))
  · blk_ext! [idx t]
  · blk_ext! [idx t, layer, col]

end Kernel

end Cert.ModulationProof

end
-- ==== Proof.S5States.lean ====
module

public import Idealize.ShloMosaic.Lib.Pipeline.ValueKit
public import Idealize.ShloMosaic.Lib.Pointwise
public import Idealize.ShloMosaic.Lib.Claim

@[expose] public section

set_option maxRecDepth 16384

noncomputable section

namespace Cert.S5ScanProof

open Idealize.ShloMosaic Idealize.ShloMosaic.TcCoe Idealize.SL.Sem
open Idealize.ShloMosaic.Pipeline (Dat)

/-- The recurrence `x ← a x + s` over complex numbers, kept as a real and an imaginary part: what `x` is before step `k`. -/
def trail (ar ai : EReal) (s : ℕ → EReal × EReal) (x : EReal × EReal) : ℕ → EReal × EReal
  | 0 => x
  | k + 1 => (ar * (trail ar ai s x k).1 - ai * (trail ar ai s x k).2 + (s k).1,
      ar * (trail ar ai s x k).2 + ai * (trail ar ai s x k).1 + (s k).2)

/-- Lane `l` of direction `d`, part `p` (real or imaginary). -/
def lane (d p : Fin 2) (l : Fin 512) : Fin 2048 := ⟨1024 * d.val + 512 * p.val + l.val, by omega⟩

/-- The chunk that direction `d` reads at step `t`: the second direction runs backwards in time. -/
def chunk (d : Fin 2) (t : ℕ) : ℕ := if d.val = 0 then t else 15 - t

/-- Row `r` of the chunk that direction `d` reads at step `t`. -/
def row (d : Fin 2) (t : ℕ) (r : Fin 8) : Fin 128 := ⟨(8 * chunk d t + r.val) % 128, Nat.mod_lt _ (by omega)⟩

/-- The real or the imaginary part. -/
def part (p : Fin 2) (z : EReal × EReal) : EReal := if p = 0 then z.1 else z.2

/-- Rows and lanes of the states before every step, as the first result lays them out. -/
def spread (f : Fin 8 → Fin 2 → Fin 512 → ℕ → EReal × EReal) (y : Fin 128) (z : Fin 2048) : EReal :=
  part ⟨z.val / 512 % 2, by omega⟩ (f ⟨y.val % 8, by omega⟩ ⟨z.val / 1024, by omega⟩ ⟨z.val % 512, by omega⟩ (chunk ⟨z.val / 1024, by omega⟩ (y.val / 8)))

/-- Lanes of the states at the end, as the second result lays them out. -/
def last (f : Fin 8 → Fin 2 → Fin 512 → ℕ → EReal × EReal) (r : Fin 8) (z : Fin 2048) : EReal :=
  part ⟨z.val / 512 % 2, by omega⟩ (f r ⟨z.val / 1024, by omega⟩ ⟨z.val % 512, by omega⟩ 16)

/-- Where one state stands in the first layout. -/
theorem spread_at (f : Fin 8 → Fin 2 → Fin 512 → ℕ → EReal × EReal) (y : Fin 128) (z : Fin 2048) (d p : Fin 2) (r : Fin 8) (l : Fin 512) (t : ℕ)
    (ht : t < 16) (hy : y.val = 8 * chunk d t + r.val) (hz : z.val = 1024 * d.val + 512 * p.val + l.val) : spread f y z = part p (f r d l t) := by
  have hp : (⟨z.val / 512 % 2, by omega⟩ : Fin 2) = p := Fin.ext (by show z.val / 512 % 2 = p.val; omega)
  have hd : (⟨z.val / 1024, by omega⟩ : Fin 2) = d := Fin.ext (by show z.val / 1024 = d.val; omega)
  have hl : (⟨z.val % 512, by omega⟩ : Fin 512) = l := Fin.ext (by show z.val % 512 = l.val; omega)
  have hr : (⟨y.val % 8, by omega⟩ : Fin 8) = r := Fin.ext (by show y.val % 8 = r.val; omega)
  have ht' : chunk d (y.val / 8) = t := by
    have hq : y.val / 8 = chunk d t := by omega
    rw [hq]
    unfold chunk
    split <;> omega
  unfold spread
  rw [hp, hd, hl, hr, ht']

/-- Where one state stands in the second layout. -/
theorem last_at (f : Fin 8 → Fin 2 → Fin 512 → ℕ → EReal × EReal) (r : Fin 8) (z : Fin 2048) (d p : Fin 2) (l : Fin 512)
    (hz : z.val = 1024 * d.val + 512 * p.val + l.val) : last f r z = part p (f r d l 16) := by
  have hp : (⟨z.val / 512 % 2, by omega⟩ : Fin 2) = p := Fin.ext (by show z.val / 512 % 2 = p.val; omega)
  have hd : (⟨z.val / 1024, by omega⟩ : Fin 2) = d := Fin.ext (by show z.val / 1024 = d.val; omega)
  have hl : (⟨z.val % 512, by omega⟩ : Fin 512) = l := Fin.ext (by show z.val % 512 = l.val; omega)
  unfold last
  rw [hp, hd, hl]

end Cert.S5ScanProof

end
-- ==== Proof.S5ScanRef.lean ====
module

public import proofs.«01_k».proof.Proof.Gen.S5ScanRefIdeal.Run
public import proofs.«01_k».proof.Proof.Gen.S5ScanRefIdeal.Step
public import proofs.«01_k».proof.Proof.S5States
public import Idealize.ShloMosaic.Lib.ValueIdxRank6

@[expose] public section

set_option maxRecDepth 16384

noncomputable section

namespace Cert.S5ScanProof

open Idealize.ShloMosaic Idealize.ShloMosaic.TcCoe Idealize.SL.Sem
open Idealize.ShloMosaic.Pipeline (Dat)

/-- The states of one lane: from the inputs `s`, the coefficients `a` and the initial states `x0`. -/
def state (s : FVec Ideal Cert.S5ScanRefIdeal.S2x4x128x2048 .f32) (a : FVec Ideal Cert.S5ScanRefIdeal.S4x8x2048 .f32)
    (x0 : FVec Ideal Cert.S5ScanRefIdeal.S2x4x8x2048 .f32) (g : Fin 2) (j : Fin 4) (r : Fin 8) (d : Fin 2) (l : Fin 512) : ℕ → EReal × EReal :=
  trail (a (ix3 j r (lane d 0 l))) (a (ix3 j r (lane d 1 l)))
    (fun t => (s (ix4 g j (row d t r) (lane d 0 l)), s (ix4 g j (row d t r) (lane d 1 l))))
    (x0 (ix4 g j r (lane d 0 l)), x0 (ix4 g j r (lane d 1 l)))

section Ref
open Cert.S5ScanRefIdeal Cert.S5ScanRefIdeal.Gen Cert.S5ScanRefIdeal.Step Idealize.ShloMosaic.StableHlo

variable (a0 : FVec Ideal S2x4x128x2048 .f32) (a1 : FVec Ideal S4x8x2048 .f32) (a2 : FVec Ideal S2x4x8x2048 .f32)

/-- The reference's states, trip by trip. -/
def it : ℕ → State Ideal
  | 0 => init a0 a1 a2
  | n + 1 => step n (it n)

/-- A valuation of the loop's buffers that holds a state, the inputs and coefficients in it, and the number of the trip. -/
structure Holds (V : Valuation τ sig (Elt Ideal)) (s : State Ideal) (n : ℕ) : Prop where
  xr : V (Proc.devRef .tc main_v14_4) = s.main_v14_4
  xi : V (Proc.devRef .tc main_v14_5) = s.main_v14_5
  sr : V (Proc.devRef .tc main_v14_6) = s.main_v14_6
  si : V (Proc.devRef .tc main_v14_7) = s.main_v14_7
  inputs : V (Proc.devRef .tc main_v14_0) = s.main_v14_0
  re : V (Proc.devRef .tc main_v14_1) = s.main_v14_1
  im : V (Proc.devRef .tc main_v14_2) = s.main_v14_2
  count : V (Proc.devRef .tc main_v14_3) = constantI S_ 32 (BitVec.ofNat 32 n)

/-- One trip takes a valuation that holds a state to one that holds the next. -/
theorem Holds.next {V : Valuation τ sig (Elt Ideal)} {s : State Ideal} {n : ℕ} (h : Holds V s n) : Holds (Value.STEP V) (step n s) (n + 1) where
  xr := (Value.STEP_main_v14_4 V).trans (by
    unfold Value.step_main_v14_4 Value.res_main_while0b_v37
    simp only [h.xr, h.xi, h.inputs, h.re, h.im, h.count]
    rfl)
  xi := (Value.STEP_main_v14_5 V).trans (by
    unfold Value.step_main_v14_5 Value.res_main_while0b_v37
    simp only [h.xr, h.xi, h.inputs, h.re, h.im, h.count]
    rfl)
  sr := (Value.STEP_main_v14_6 V).trans (by
    unfold Value.step_main_v14_6
    simp only [h.xr, h.sr, h.count]
    rfl)
  si := (Value.STEP_main_v14_7 V).trans (by
    unfold Value.step_main_v14_7
    simp only [h.xi, h.si, h.count]
    rfl)
  inputs := (Value.STEP_main_v14_0 V).trans h.inputs
  re := (Value.STEP_main_v14_1 V).trans h.re
  im := (Value.STEP_main_v14_2 V).trans h.im
  count := (Value.STEP_main_v14_3 V).trans (by
    unfold Value.step_main_v14_3
    rw [h.count]
    funext i
    show BitVec.ofNat 32 n + 1#32 = BitVec.ofNat 32 (n + 1)
    simp only [BitVec.ofNat_add])

section Entry
variable (m : (ℓ : Loc nD τ sig) → Buf (Elt Ideal) ℓ) (c : Dev nD)

/-- The arguments on one device. -/
abbrev S0 : FVec Ideal S2x4x128x2048 .f32 := m ((c.tc : Thread nD τ).loc main_arg0)
abbrev A0 : FVec Ideal S4x8x2048 .f32 := m ((c.tc : Thread nD τ).loc main_arg1)
abbrev X0 : FVec Ideal S2x4x8x2048 .f32 := m ((c.tc : Thread nD τ).loc main_arg2)

/-- Before the loop the valuation holds the first state. -/
theorem entry : Holds (entryContents Value.preI m c) (init (S0 m c) (A0 m c) (X0 m c)) 0 := by
  constructor <;> (simp only [entryContents, afterL_cons, afterL_nil]; after_reads_simp) <;> rfl

/-- Before trip `n` it holds state `n`. -/
theorem holds : ∀ n, Holds (Value.STEP^[n] (entryContents Value.preI m c)) (it (S0 m c) (A0 m c) (X0 m c) n) n
  | 0 => entry m c
  | n + 1 => by
    rw [Function.iterate_succ_apply']
    exact (holds n).next

/-- The reference's first result. -/
theorem out36 : Value.out_main_v36 (Value.STEP^[16] (entryContents Value.preI m c)) = R_main_v36 (it (S0 m c) (A0 m c) (X0 m c) 16) := by
  have h := holds m c 16
  unfold Value.out_main_v36
  rw [h.sr, h.si]
  rfl

/-- The reference's second result. -/
theorem out34 : Value.out_main_v34 (Value.STEP^[16] (entryContents Value.preI m c)) = R_main_v34 (it (S0 m c) (A0 m c) (X0 m c) 16) := by
  have h := holds m c 16
  unfold Value.out_main_v34
  rw [h.xr, h.xi]
  rfl

end Entry

/-- No trip changes the inputs. -/
theorem it_s : ∀ n, (it a0 a1 a2 n).main_v14_0 = A_main_v5 a0 a1 a2
  | 0 => rfl
  | n + 1 => it_s n

/-- No trip changes the coefficients' real part. -/
theorem it_ar : ∀ n, (it a0 a1 a2 n).main_v14_1 = A_main_v7 a0 a1 a2
  | 0 => rfl
  | n + 1 => it_ar n

/-- No trip changes the coefficients' imaginary part. -/
theorem it_ai : ∀ n, (it a0 a1 a2 n).main_v14_2 = A_main_v8 a0 a1 a2
  | 0 => rfl
  | n + 1 => it_ai n

/-- The coefficients' real part. -/
theorem ar_point (j : Fin 4) (r : Fin 8) (d : Fin 2) (l : Fin 512) : A_main_v7 (F := Ideal) a0 a1 a2 (ix4 j r d l) = a1 (ix3 j r (lane d 0 l)) := by
  pointwise [A_main_v7, A_main_v6]
  congr 2
  exact Fin.ext (by
    show 2 * d.val * 512 + l.val = 1024 * d.val + 512 * 0 + l.val
    omega)

/-- The coefficients' imaginary part. -/
theorem ai_point (j : Fin 4) (r : Fin 8) (d : Fin 2) (l : Fin 512) : A_main_v8 (F := Ideal) a0 a1 a2 (ix4 j r d l) = a1 (ix3 j r (lane d 1 l)) := by
  pointwise [A_main_v8, A_main_v6]
  congr 2
  exact Fin.ext (by
    show (1 + 2 * d.val) * 512 + l.val = 1024 * d.val + 512 * 1 + l.val
    omega)

/-- The initial states' real part. -/
theorem xr_point (g : Fin 2) (j : Fin 4) (r : Fin 8) (d : Fin 2) (l : Fin 512) :
    A_main_v10 (F := Ideal) a0 a1 a2 (ix5 g j r d l) = a2 (ix4 g j r (lane d 0 l)) := by
  pointwise [A_main_v10, A_main_v9]
  congr 2
  exact Fin.ext (by
    show 2 * d.val * 512 + l.val = 1024 * d.val + 512 * 0 + l.val
    omega)

/-- The initial states' imaginary part. -/
theorem xi_point (g : Fin 2) (j : Fin 4) (r : Fin 8) (d : Fin 2) (l : Fin 512) :
    A_main_v11 (F := Ideal) a0 a1 a2 (ix5 g j r d l) = a2 (ix4 g j r (lane d 1 l)) := by
  pointwise [A_main_v11, A_main_v9]
  congr 2
  exact Fin.ext (by
    show (1 + 2 * d.val) * 512 + l.val = 1024 * d.val + 512 * 1 + l.val
    omega)

/-- The inputs, step by step. -/
theorem s_point (t : Fin 16) (g : Fin 2) (j : Fin 4) (r : Fin 8) (d p : Fin 2) (l : Fin 512) (q : Fin 4) (hq : q.val = 2 * d.val + p.val) :
    A_main_v5 (F := Ideal) a0 a1 a2 (ix6 t g j r q l) = a0 (ix4 g j (row d t r) (lane d p l)) := by
  pointwise [A_main_v5, A_main_v4, A_main_v3, A_main_v2, A_main_v1, A_main_v0]
  have hr := r.isLt
  have ht := t.isLt
  by_cases hd : d.val = 0
  · have hc : chunk d t.val = t.val := if_pos hd
    rw [dif_pos (by omega)]
    congr 2
    · exact Fin.ext (by
        show t.val * 8 + r.val = (8 * chunk d t.val + r.val) % 128
        omega)
    · exact Fin.ext (by
        show q.val * 512 + l.val = 1024 * d.val + 512 * p.val + l.val
        omega)
  · have hc : chunk d t.val = 15 - t.val := if_neg hd
    rw [dif_neg (by omega)]
    congr 2
    · exact Fin.ext (by
        show (Fin.rev t).val * 8 + r.val = (8 * chunk d t.val + r.val) % 128
        rw [Fin.val_rev]
        omega)
    · exact Fin.ext (by
        show (2 + (q.val - 2)) * 512 + l.val = 1024 * d.val + 512 * p.val + l.val
        omega)

/-- The number of a trip as a 32-bit word is that number. -/
theorem word (n : Fin 16) : (BitVec.ofNat 32 n.val).toInt = n.val := by
  revert n
  decide

/-- What a step reads of the inputs. -/
theorem slice_point (n : Fin 16) (s : State Ideal) (g : Fin 2) (j : Fin 4) (r : Fin 8) (q : Fin 4) (l : Fin 512) :
    b6 n s (ix5 g j r q l) = s.main_v14_0 (ix6 n g j r q l) := by
  pointwise [b6, b5, b0, b1, b2, b3, b4]
  congr 1
  have hn := word n
  congr 1 <;> (apply Fin.ext; simp [Host.clampedStart, constantI, hn])
  all_goals omega

/-- A step's new real part. -/
theorem b15_point (n : ℕ) (s : State Ideal) (g : Fin 2) (j : Fin 4) (r : Fin 8) (d : Fin 2) (l : Fin 512) :
    b15 n s (ix5 g j r d l) = s.main_v14_1 (ix4 j r d l) * s.main_v14_4 (ix5 g j r d l) - s.main_v14_2 (ix4 j r d l) * s.main_v14_5 (ix5 g j r d l)
      + b6 n s (ix5 g j r ⟨2 * d.val, by omega⟩ l) := by
  pointwise [b15, b14, b13, b12, b11, b10, b9, b8, b7]

/-- A step's new imaginary part. -/
theorem b24_point (n : ℕ) (s : State Ideal) (g : Fin 2) (j : Fin 4) (r : Fin 8) (d : Fin 2) (l : Fin 512) :
    b24 n s (ix5 g j r d l) = s.main_v14_1 (ix4 j r d l) * s.main_v14_5 (ix5 g j r d l) + s.main_v14_2 (ix4 j r d l) * s.main_v14_4 (ix5 g j r d l)
      + b6 n s (ix5 g j r ⟨1 + 2 * d.val, by omega⟩ l) := by
  pointwise [b24, b23, b22, b21, b20, b19, b18, b17, b16]

/-- What a step stores in the real parts' array. -/
theorem b31_point (n t : Fin 16) (s : State Ideal) (g : Fin 2) (j : Fin 4) (r : Fin 8) (d : Fin 2) (l : Fin 512) :
    b31 n s (ix6 t g j r d l) = if t = n then s.main_v14_4 (ix5 g j r d l) else s.main_v14_6 (ix6 t g j r d l) := by
  unfold b31 Host.dynamicUpdateSlice
  pointwise [b25, b26, b27, b28, b29, b30]
  have hn := word n
  have hn' : (min (max (n.val : ℤ) 0) 15).toNat = n.val := by omega
  by_cases h : t = n
  · subst h
    simp [hn, hn']
    intro h'
    omega
  · have ht : ¬ (n.val ≤ t.val ∧ t.val < n.val + 1) := by omega
    simp [hn, hn', h, ht]
    intro h1 h2
    omega

/-- What a step stores in the imaginary parts' array. -/
theorem b38_point (n t : Fin 16) (s : State Ideal) (g : Fin 2) (j : Fin 4) (r : Fin 8) (d : Fin 2) (l : Fin 512) :
    b38 n s (ix6 t g j r d l) = if t = n then s.main_v14_5 (ix5 g j r d l) else s.main_v14_7 (ix6 t g j r d l) := by
  unfold b38 Host.dynamicUpdateSlice
  pointwise [b32, b33, b34, b35, b36, b37]
  have hn := word n
  have hn' : (min (max (n.val : ℤ) 0) 15).toNat = n.val := by omega
  by_cases h : t = n
  · subst h
    simp [hn, hn']
    intro h'
    omega
  · have ht : ¬ (n.val ≤ t.val ∧ t.val < n.val + 1) := by omega
    simp [hn, hn', h, ht]
    intro h1 h2
    omega

/-- Before step `n` the reference's carried values are the states. -/
theorem states : ∀ n ≤ 16, ∀ (g : Fin 2) (j : Fin 4) (r : Fin 8) (d : Fin 2) (l : Fin 512),
    (it a0 a1 a2 n).main_v14_4 (ix5 g j r d l) = (state a0 a1 a2 g j r d l n).1
      ∧ (it a0 a1 a2 n).main_v14_5 (ix5 g j r d l) = (state a0 a1 a2 g j r d l n).2
  | 0, _, g, j, r, d, l => ⟨xr_point a0 a1 a2 g j r d l, xi_point a0 a1 a2 g j r d l⟩
  | n + 1, hn, g, j, r, d, l => by
    have ih := states n (by omega) g j r d l
    have e0 := (slice_point ⟨n, by omega⟩ (it a0 a1 a2 n) g j r ⟨2 * d.val, by omega⟩ l).trans
      ((congrFun (it_s a0 a1 a2 n) _).trans (s_point a0 a1 a2 ⟨n, by omega⟩ g j r d 0 l _ rfl))
    have e1 := (slice_point ⟨n, by omega⟩ (it a0 a1 a2 n) g j r ⟨1 + 2 * d.val, by omega⟩ l).trans
      ((congrFun (it_s a0 a1 a2 n) _).trans (s_point a0 a1 a2 ⟨n, by omega⟩ g j r d 1 l _ (Nat.add_comm _ _)))
    rw [show it a0 a1 a2 (n + 1) = step n (it a0 a1 a2 n) from rfl, step_main_v14_4, step_main_v14_5, b15_point, b24_point, it_ar, it_ai,
      ar_point, ai_point, ih.1, ih.2]
    exact ⟨congrArg (_ + ·) e0, congrArg (_ + ·) e1⟩

/-- What has been stored before step `n` are the states of the steps so far. -/
theorem kept : ∀ n ≤ 16, ∀ (t : Fin 16), t.val < n → ∀ (g : Fin 2) (j : Fin 4) (r : Fin 8) (d : Fin 2) (l : Fin 512),
    (it a0 a1 a2 n).main_v14_6 (ix6 t g j r d l) = (state a0 a1 a2 g j r d l t.val).1
      ∧ (it a0 a1 a2 n).main_v14_7 (ix6 t g j r d l) = (state a0 a1 a2 g j r d l t.val).2
  | 0, _, t, ht, _, _, _, _, _ => absurd ht (Nat.not_lt_zero _)
  | n + 1, hn, t, ht, g, j, r, d, l => by
    have e6 := b31_point ⟨n, by omega⟩ t (it a0 a1 a2 n) g j r d l
    have e7 := b38_point ⟨n, by omega⟩ t (it a0 a1 a2 n) g j r d l
    rw [show it a0 a1 a2 (n + 1) = step n (it a0 a1 a2 n) from rfl, step_main_v14_6, step_main_v14_7]
    by_cases h : t = ⟨n, by omega⟩
    · rw [if_pos h] at e6 e7
      have hs := states a0 a1 a2 n (by omega) g j r d l
      rw [show t.val = n from congrArg Fin.val h]
      exact ⟨e6.trans hs.1, e7.trans hs.2⟩
    · rw [if_neg h] at e6 e7
      have hs := kept n (by omega) t (by have : t.val ≠ n := fun h' => h (Fin.ext h'); omega) g j r d l
      exact ⟨e6.trans hs.1, e7.trans hs.2⟩

/-- The first result of the arguments: every state, laid out. -/
def REF1 : FVec Ideal S2x4x128x2048 .f32 := fun y => spread (state a0 a1 a2 (y 0) (y 1)) (y 2) (y 3)

/-- The second result of the arguments: the states at the end, laid out. -/
def REF2 : FVec Ideal S2x4x8x2048 .f32 := fun y => last (state a0 a1 a2 (y 0) (y 1)) (y 2) (y 3)

/-- The reference's first result is the states laid out. -/
theorem first : R_main_v36 (it a0 a1 a2 16) = REF1 a0 a1 a2 := by
  funext i
  obtain ⟨g, j, y, z, rfl⟩ : ∃ (g : Fin 2) (j : Fin 4) (y : Fin 128) (z : Fin 2048), i = ix4 g j y z := ⟨i 0, i 1, i 2, i 3, by funext a; fin_cases a <;> rfl⟩
  show _ = spread (state a0 a1 a2 g j) y z
  have hy := y.isLt
  have hz := z.isLt
  pointwise [R_main_v36]
  split
  · rename_i h
    rw [(kept a0 a1 a2 16 le_rfl _ (by show y.val / 8 < 16; omega) g j _ 0 _).1]
    refine (spread_at _ _ _ 0 0 _ _ (y.val / 8) (by omega) ?_ ?_).symm
    · show y.val = 8 * (y.val / 8) + y.val % 8
      omega
    · show z.val = 1024 * 0 + 512 * 0 + z.val
      omega
  split
  · rename_i h h'
    rw [(kept a0 a1 a2 16 le_rfl _ (by show y.val / 8 < 16; omega) g j _ 0 _).2]
    refine (spread_at _ _ _ 0 1 _ _ (y.val / 8) (by omega) ?_ ?_).symm
    · show y.val = 8 * (y.val / 8) + y.val % 8
      omega
    · show z.val = 1024 * 0 + 512 * 1 + (z.val - 512)
      omega
  split
  · rename_i h h' h''
    refine (kept a0 a1 a2 16 le_rfl (Fin.rev ⟨y.val / 8, by omega⟩) (Fin.isLt _) g j ⟨y.val % 8, by omega⟩ 1 ⟨z.val - 512 - 512, by omega⟩).1.trans ?_
    rw [Fin.val_rev]
    refine (spread_at _ _ _ 1 0 _ _ _ (by omega) ?_ ?_).symm
    · show y.val = 8 * (15 - (16 - (y.val / 8 + 1))) + y.val % 8
      omega
    · show z.val = 1024 * 1 + 512 * 0 + (z.val - 512 - 512)
      omega
  · rename_i h h' h''
    refine (kept a0 a1 a2 16 le_rfl (Fin.rev ⟨y.val / 8, by omega⟩) (Fin.isLt _) g j ⟨y.val % 8, by omega⟩ 1 ⟨z.val - 512 - 512 - 512, by omega⟩).2.trans ?_
    rw [Fin.val_rev]
    refine (spread_at _ _ _ 1 1 _ _ _ (by omega) ?_ ?_).symm
    · show y.val = 8 * (15 - (16 - (y.val / 8 + 1))) + y.val % 8
      omega
    · show z.val = 1024 * 1 + 512 * 1 + (z.val - 512 - 512 - 512)
      omega

/-- The reference's second result is the last states laid out. -/
theorem second : R_main_v34 (it a0 a1 a2 16) = REF2 a0 a1 a2 := by
  funext i
  obtain ⟨g, j, y, z, rfl⟩ : ∃ (g : Fin 2) (j : Fin 4) (y : Fin 8) (z : Fin 2048), i = ix4 g j y z := ⟨i 0, i 1, i 2, i 3, by funext a; fin_cases a <;> rfl⟩
  show _ = last (state a0 a1 a2 g j) y z
  have hz := z.isLt
  pointwise [R_main_v34]
  split
  · rename_i h
    rw [(states a0 a1 a2 16 le_rfl g j y 0 _).1]
    refine (last_at _ _ _ 0 0 _ ?_).symm
    show z.val = 1024 * 0 + 512 * 0 + z.val
    omega
  split
  · rename_i h h'
    rw [(states a0 a1 a2 16 le_rfl g j y 0 _).2]
    refine (last_at _ _ _ 0 1 _ ?_).symm
    show z.val = 1024 * 0 + 512 * 1 + (z.val - 512)
    omega
  split
  · rename_i h h' h''
    rw [(states a0 a1 a2 16 le_rfl g j y 1 _).1]
    refine (last_at _ _ _ 1 0 _ ?_).symm
    show z.val = 1024 * 1 + 512 * 0 + (z.val - 512 - 512)
    omega
  · rename_i h h' h''
    rw [(states a0 a1 a2 16 le_rfl g j y 1 _).2]
    refine (last_at _ _ _ 1 1 _ ?_).symm
    show z.val = 1024 * 1 + 512 * 1 + (z.val - 512 - 512 - 512)
    omega

end Ref

end Cert.S5ScanProof

end
-- ==== Proof.S5Scan.lean ====
module

public import proofs.«01_k».proof.Proof.Gen.S5ScanIdeal.Value
public import proofs.«01_k».proof.Proof.S5ScanRef

@[expose] public section

set_option maxRecDepth 16384

noncomputable section

namespace Cert.S5ScanProof

open Idealize.ShloMosaic Idealize.ShloMosaic.TcCoe Idealize.SL.Sem
open Idealize.ShloMosaic.Pipeline (Dat)

section Ker
open Cert.S5ScanIdeal Cert.S5ScanIdeal.Gen

/-- The states of one lane of a block: from the block's inputs, coefficients and initial states. -/
def bstate (x0 : FVec Ideal S1x1x128x2048 .f32) (x1 : FVec Ideal S1x8x2048 .f32) (x2 : FVec Ideal S1x1x8x2048 .f32)
    (r : Fin 8) (d : Fin 2) (l : Fin 512) : ℕ → EReal × EReal :=
  trail (x1 (ix3 0 r (lane d 0 l))) (x1 (ix3 0 r (lane d 1 l)))
    (fun t => (x0 (ix4 0 0 (row d t r) (lane d 0 l)), x0 (ix4 0 0 (row d t r) (lane d 1 l))))
    (x2 (ix4 0 0 r (lane d 0 l)), x2 (ix4 0 0 r (lane d 1 l)))

/-- The states laid out as the block of the first result. -/
def laid (x0 : FVec Ideal S1x1x128x2048 .f32) (x1 : FVec Ideal S1x8x2048 .f32) (x2 : FVec Ideal S1x1x8x2048 .f32) : FVec Ideal S1x1x128x2048 .f32 :=
  fun y => spread (bstate x0 x1 x2) (y 2) (y 3)

/-- The states at the end laid out as the block of the second result. -/
def laidLast (x0 : FVec Ideal S1x1x128x2048 .f32) (x1 : FVec Ideal S1x8x2048 .f32) (x2 : FVec Ideal S1x1x8x2048 .f32) : FVec Ideal S1x1x8x2048 .f32 :=
  fun y => last (bstate x0 x1 x2) (y 2) (y 3)

variable {𝒱 : Variants} (c : Dev nD) (bd : Option 𝒱.V) (i : grid0.Coords) (arg2 : Memref sig .tc .vmem S1x1x128x2048 .f32) (harg2 : arg2.IsWhole) (arg3 : Memref sig .tc .vmem S1x8x2048 .f32) (harg3 : arg3.IsWhole) (arg4 : Memref sig .tc .vmem S1x1x8x2048 .f32) (harg4 : arg4.IsWhole) (arg5 : Memref sig .tc .vmem S1x1x128x2048 .f32) (harg5 : arg5.IsWhole) (arg6 : Memref sig .tc .vmem S1x1x8x2048 .f32) (harg6 : arg6.IsWhole)
  (v0 v2 v4 v6 : Vec Ideal S1x8x512 .f32) (X : BufTy.Contents (Elt Ideal) arg2.view.ty) (k : Fin k0_t1_loop.trips)
  (acc : FVec Ideal S8x512 .f32 × FVec Ideal S8x512 .f32 × FVec Ideal S8x512 .f32 × FVec Ideal S8x512 .f32)
  (x0 : FVec Ideal S1x1x128x2048 .f32) (x1 : FVec Ideal S1x8x2048 .f32) (x2 : FVec Ideal S1x1x8x2048 .f32)

/-- What one trip makes of the carried states. -/
theorem trip_carry :
    tripR_k0_t1 (F := Ideal) 𝒱 c bd i arg2 harg2 arg3 harg3 arg4 harg4 arg5 harg5 arg6 harg6 v0 v2 v4 v6 X k acc
      = (k0_pay8 (k0_pay11 v0) (k0_pay12 v2) acc.1 acc.2.1 (View.ld (arg2.view.read (Elt Ideal) X) (Rect.unit (k0_off1 k) S1x1x8x512.size (k0_off1_inb k))),
        k0_pay19 (k0_pay9 (k0_pay11 v0) (k0_pay12 v2) acc.1 acc.2.1) (k0_pay10 (View.ld (arg2.view.read (Elt Ideal) X) (Rect.unit (k0_off2 k) S1x1x8x512.size (k0_off2_inb k)))),
        k0_pay20 v4 v6 acc.2.2.1 acc.2.2.2 (View.ld (arg2.view.read (Elt Ideal) X) (Rect.unit (k0_off3 k) S1x1x8x512.size (k0_off3_inb k))),
        k0_pay21 v4 v6 acc.2.2.1 acc.2.2.2 (View.ld (arg2.view.read (Elt Ideal) X) (Rect.unit (k0_off4 k) S1x1x8x512.size (k0_off4_inb k)))) := by
  delta tripR_k0_t1 trip_k0_t1
  rfl

/-- What one trip stores: the states it was given. -/
theorem trip_stores :
    tripL_k0_t1 (F := Ideal) 𝒱 c bd i arg2 harg2 arg3 harg3 arg4 harg4 arg5 harg5 arg6 harg6 v0 v2 v4 v6 X k acc
      = [⟨Rect.unit (k0_off4 k) S1x1x8x512.size (k0_off4_inb k), k0_pay7 acc.2.2.2⟩,
        ⟨Rect.unit (k0_off3 k) S1x1x8x512.size (k0_off3_inb k), k0_pay6 acc.2.2.1⟩,
        ⟨Rect.unit (k0_off2 k) S1x1x8x512.size (k0_off2_inb k), k0_pay5 acc.2.1⟩,
        ⟨Rect.unit (k0_off1 k) S1x1x8x512.size (k0_off1_inb k), k0_pay4 acc.1⟩] := by
  delta tripL_k0_t1 trip_k0_t1
  rfl

/-- A step's real part forwards. -/
theorem fr_at (a b : FVec Ideal S8x512 .f32) (u : Vec Ideal S1x1x8x512 .f32) (r : Fin 8) (l : Fin 512) :
    k0_pay8 (k0_pay11 v0) (k0_pay12 v2) a b u (ix2 r l) = v0 (ix3 0 r l) * a (ix2 r l) - v2 (ix3 0 r l) * b (ix2 r l) + u (ix4 0 0 r l) := by
  pointwise [k0_pay8, k0_pay11, k0_pay12]

/-- A step's imaginary part forwards. -/
theorem fi_at (a b : FVec Ideal S8x512 .f32) (u : Vec Ideal S1x1x8x512 .f32) (r : Fin 8) (l : Fin 512) :
    k0_pay19 (k0_pay9 (k0_pay11 v0) (k0_pay12 v2) a b) (k0_pay10 u) (ix2 r l)
      = v0 (ix3 0 r l) * b (ix2 r l) + v2 (ix3 0 r l) * a (ix2 r l) + u (ix4 0 0 r l) := by
  pointwise [k0_pay19, k0_pay9, k0_pay10, k0_pay11, k0_pay12]

/-- A step's real part backwards. -/
theorem br_at (a b : FVec Ideal S8x512 .f32) (u : Vec Ideal S1x1x8x512 .f32) (r : Fin 8) (l : Fin 512) :
    k0_pay20 v4 v6 a b u (ix2 r l) = v4 (ix3 0 r l) * a (ix2 r l) - v6 (ix3 0 r l) * b (ix2 r l) + u (ix4 0 0 r l) := by
  pointwise [k0_pay20, k0_pay13, k0_pay14]

/-- A step's imaginary part backwards. -/
theorem bi_at (a b : FVec Ideal S8x512 .f32) (u : Vec Ideal S1x1x8x512 .f32) (r : Fin 8) (l : Fin 512) :
    k0_pay21 v4 v6 a b u (ix2 r l) = v4 (ix3 0 r l) * b (ix2 r l) + v6 (ix3 0 r l) * a (ix2 r l) + u (ix4 0 0 r l) := by
  pointwise [k0_pay21, k0_pay13, k0_pay14]

/-- What a step stores is what it was given. -/
theorem store4_at (v : FVec Ideal S8x512 .f32) (r : Fin 8) (l : Fin 512) : k0_pay4 v (ix4 0 0 r l) = v (ix2 r l) := by
  pointwise [k0_pay4]

/-- What a step stores is what it was given. -/
theorem store5_at (v : FVec Ideal S8x512 .f32) (r : Fin 8) (l : Fin 512) : k0_pay5 v (ix4 0 0 r l) = v (ix2 r l) := by
  pointwise [k0_pay5]

/-- What a step stores is what it was given. -/
theorem store6_at (v : FVec Ideal S8x512 .f32) (r : Fin 8) (l : Fin 512) : k0_pay6 v (ix4 0 0 r l) = v (ix2 r l) := by
  pointwise [k0_pay6]

/-- What a step stores is what it was given. -/
theorem store7_at (v : FVec Ideal S8x512 .f32) (r : Fin 8) (l : Fin 512) : k0_pay7 v (ix4 0 0 r l) = v (ix2 r l) := by
  pointwise [k0_pay7]

/-- What is stored at the end is what the loop left. -/
theorem end22_at (v : FVec Ideal S8x512 .f32) (r : Fin 8) (l : Fin 512) : k0_pay22 v (ix4 0 0 r l) = v (ix2 r l) := by
  pointwise [k0_pay22]

/-- What is stored at the end is what the loop left. -/
theorem end1_at (v : FVec Ideal S8x512 .f32) (r : Fin 8) (l : Fin 512) : k0_pay1 v (ix4 0 0 r l) = v (ix2 r l) := by
  pointwise [k0_pay1]

/-- What is stored at the end is what the loop left. -/
theorem end2_at (v : FVec Ideal S8x512 .f32) (r : Fin 8) (l : Fin 512) : k0_pay2 v (ix4 0 0 r l) = v (ix2 r l) := by
  pointwise [k0_pay2]

/-- What is stored at the end is what the loop left. -/
theorem end3_at (v : FVec Ideal S8x512 .f32) (r : Fin 8) (l : Fin 512) : k0_pay3 v (ix4 0 0 r l) = v (ix2 r l) := by
  pointwise [k0_pay3]

/-- A chunk of a block of inputs, read at the offsets of direction `d` and part `p`. -/
theorem ld_at (off : Fin 4 → ℕ) (inb) (d p : Fin 2) (t : ℕ) (ht : t < 16) (h : off = ![0, 0, 8 * chunk d t, 1024 * d.val + 512 * p.val]) (r : Fin 8) (l : Fin 512) :
    View.ld (Val := Elt Ideal) (e' := .f32) x0 (Rect.unit (s := S1x1x128x2048) off S1x1x8x512.size inb) (ix4 0 0 r l) = x0 (ix4 0 0 (row d t r) (lane d p l)) := by
  refine View.ld_unit_apply_of _ _ _ _ _ _ fun a => ?_
  subst h
  have hc : chunk d t < 16 := by unfold chunk; split <;> omega
  fin_cases a
  · rfl
  · rfl
  · show (8 * chunk d t + r.val) % 128 = 8 * chunk d t + r.val
    omega
  · rfl

/-- The offsets of one trip. -/
theorem offs : k0_off1 k = ![0, 0, 8 * chunk 0 k.val, 1024 * (0 : Fin 2).val + 512 * (0 : Fin 2).val] ∧ k0_off2 k = ![0, 0, 8 * chunk 0 k.val, 1024 * (0 : Fin 2).val + 512 * (1 : Fin 2).val]
    ∧ k0_off3 k = ![0, 0, 8 * chunk 1 k.val, 1024 * (1 : Fin 2).val + 512 * (0 : Fin 2).val] ∧ k0_off4 k = ![0, 0, 8 * chunk 1 k.val, 1024 * (1 : Fin 2).val + 512 * (1 : Fin 2).val] := by
  have hk : k.val < 16 := Nat.lt_of_lt_of_le k.isLt k0_t1_abs.2.1
  have hc : 120 - 8 * k.val = 8 * (15 - k.val) := by omega
  rw [k0_off1_eq, k0_off2_eq, k0_off3_eq, k0_off4_eq, hc]
  exact ⟨rfl, rfl, rfl, rfl⟩

/-- What a block's run starts from: its coefficients, its initial states and its inputs. -/
structure Start (init : FVec Ideal S8x512 .f32 × FVec Ideal S8x512 .f32 × FVec Ideal S8x512 .f32 × FVec Ideal S8x512 .f32) : Prop where
  inputs : arg2.view.read (Elt Ideal) X = x0
  c0 : ∀ r l, v0 (ix3 0 r l) = x1 (ix3 0 r (lane 0 0 l))
  c1 : ∀ r l, v2 (ix3 0 r l) = x1 (ix3 0 r (lane 0 1 l))
  c2 : ∀ r l, v4 (ix3 0 r l) = x1 (ix3 0 r (lane 1 0 l))
  c3 : ∀ r l, v6 (ix3 0 r l) = x1 (ix3 0 r (lane 1 1 l))
  i0 : ∀ r l, init.1 (ix2 r l) = x2 (ix4 0 0 r (lane 0 0 l))
  i1 : ∀ r l, init.2.1 (ix2 r l) = x2 (ix4 0 0 r (lane 0 1 l))
  i2 : ∀ r l, init.2.2.1 (ix2 r l) = x2 (ix4 0 0 r (lane 1 0 l))
  i3 : ∀ r l, init.2.2.2 (ix2 r l) = x2 (ix4 0 0 r (lane 1 1 l))

/-- Before step `n` the carried values are the states, and all that has been stored is in its place. -/
structure Carried (n : ℕ) (s : (FVec Ideal S8x512 .f32 × FVec Ideal S8x512 .f32 × FVec Ideal S8x512 .f32 × FVec Ideal S8x512 .f32) × List (View.Piece (Elt Ideal) S1x1x128x2048 .f32)) : Prop where
  f0 : ∀ r l, s.1.1 (ix2 r l) = (bstate x0 x1 x2 r 0 l n).1
  f1 : ∀ r l, s.1.2.1 (ix2 r l) = (bstate x0 x1 x2 r 0 l n).2
  b0 : ∀ r l, s.1.2.2.1 (ix2 r l) = (bstate x0 x1 x2 r 1 l n).1
  b1 : ∀ r l, s.1.2.2.2 (ix2 r l) = (bstate x0 x1 x2 r 1 l n).2
  stored : ∀ q ∈ s.2, ∀ x : q.1.shape.Idx, q.2 x = laid x0 x1 x2 (q.1.emb x)

/-- A store of one part's states at the offsets of its step is in its place. -/
theorem piece_at (off : Fin 4 → ℕ) (inb) (d p : Fin 2) (t : ℕ) (ht : t < 16) (h : off = ![0, 0, 8 * chunk d t, 1024 * d.val + 512 * p.val])
    (v : FVec Ideal S8x512 .f32) (hv : ∀ r l, v (ix2 r l) = part p (bstate x0 x1 x2 r d l t)) (w : FVec Ideal S1x1x8x512 .f32)
    (hw : ∀ r l, w (ix4 0 0 r l) = v (ix2 r l)) (x : S1x1x8x512.Idx) :
    w x = laid x0 x1 x2 ((Rect.unit (s := S1x1x128x2048) off S1x1x8x512.size inb).emb x) := by
  obtain ⟨a, b, r, l, rfl⟩ : ∃ (a : Fin 1) (b : Fin 1) (r : Fin 8) (l : Fin 512), x = ix4 a b r l := ⟨x 0, x 1, x 2, x 3, by funext a; fin_cases a <;> rfl⟩
  obtain rfl : a = 0 := by omega
  obtain rfl : b = 0 := by omega
  subst h
  rw [hw, hv]
  refine (spread_at _ _ _ d p r l t ht ?_ ?_).symm
  · show 8 * chunk d t + 1 * r.val = _
    omega
  · show 1024 * d.val + 512 * p.val + 1 * l.val = 1024 * d.val + 512 * p.val + l.val
    omega

/-- A store of one part's states at the end is in its place. -/
theorem end_at (off : Fin 4 → ℕ) (inb) (d p : Fin 2) (h : off = ![0, 0, 0, 1024 * d.val + 512 * p.val])
    (v : FVec Ideal S8x512 .f32) (hv : ∀ r l, v (ix2 r l) = part p (bstate x0 x1 x2 r d l 16)) (w : FVec Ideal S1x1x8x512 .f32)
    (hw : ∀ r l, w (ix4 0 0 r l) = v (ix2 r l)) (x : S1x1x8x512.Idx) :
    w x = laidLast x0 x1 x2 ((Rect.unit (s := S1x1x8x2048) off S1x1x8x512.size inb).emb x) := by
  obtain ⟨a, b, r, l, rfl⟩ : ∃ (a : Fin 1) (b : Fin 1) (r : Fin 8) (l : Fin 512), x = ix4 a b r l := ⟨x 0, x 1, x 2, x 3, by funext a; fin_cases a <;> rfl⟩
  obtain rfl : a = 0 := by omega
  obtain rfl : b = 0 := by omega
  subst h
  rw [hw, hv]
  have hr : (Rect.unit (s := S1x1x8x2048) ![0, 0, 0, 1024 * d.val + 512 * p.val] S1x1x8x512.size inb).emb (ix4 0 0 r l) 2 = r :=
    Fin.ext (by show 0 + 1 * r.val = r.val; omega)
  refine ((congrArg (fun r' => last (bstate x0 x1 x2) r' _) hr).trans (last_at _ _ _ d p l ?_)).symm
  show 1024 * d.val + 512 * p.val + 1 * l.val = 1024 * d.val + 512 * p.val + l.val
  omega

variable {x0 x1 x2 v0 v2 v4 v6 X arg2}

/-- One trip of the kernel's loop takes states to the next states. -/
theorem Carried.next {init} (h : Start arg2 v0 v2 v4 v6 X x0 x1 x2 init) {s} (hs : Carried x0 x1 x2 k.val s) :
    Carried x0 x1 x2 (k.val + 1)
      (tripR_k0_t1 (F := Ideal) 𝒱 c bd i arg2 harg2 arg3 harg3 arg4 harg4 arg5 harg5 arg6 harg6 v0 v2 v4 v6 X k s.1,
        tripL_k0_t1 (F := Ideal) 𝒱 c bd i arg2 harg2 arg3 harg3 arg4 harg4 arg5 harg5 arg6 harg6 v0 v2 v4 v6 X k s.1 ++ s.2) := by
  have hk : k.val < 16 := Nat.lt_of_lt_of_le k.isLt k0_t1_abs.2.1
  obtain ⟨o1, o2, o3, o4⟩ := offs k
  rw [trip_carry, trip_stores, h.inputs]
  constructor
  · intro r l
    have e := ld_at x0 (k0_off1 k) (k0_off1_inb k) 0 0 k.val hk o1 r l
    refine (fr_at _ _ _ _ _ r l).trans ?_
    rw [hs.f0, hs.f1, h.c0, h.c1, e]
    rfl
  · intro r l
    have e := ld_at x0 (k0_off2 k) (k0_off2_inb k) 0 1 k.val hk o2 r l
    refine (fi_at _ _ _ _ _ r l).trans ?_
    rw [hs.f0, hs.f1, h.c0, h.c1, e]
    rfl
  · intro r l
    have e := ld_at x0 (k0_off3 k) (k0_off3_inb k) 1 0 k.val hk o3 r l
    refine (br_at _ _ _ _ _ r l).trans ?_
    rw [hs.b0, hs.b1, h.c2, h.c3, e]
    rfl
  · intro r l
    have e := ld_at x0 (k0_off4 k) (k0_off4_inb k) 1 1 k.val hk o4 r l
    refine (bi_at _ _ _ _ _ r l).trans ?_
    rw [hs.b0, hs.b1, h.c2, h.c3, e]
    rfl
  · intro q hq
    rcases List.mem_append.mp hq with hq | hq
    · simp only [List.mem_cons, List.not_mem_nil, or_false] at hq
      rcases hq with rfl | rfl | rfl | rfl
      · exact piece_at x0 x1 x2 _ (k0_off4_inb k) 1 1 k.val hk o4 s.1.2.2.2 hs.b1 _ (store7_at _)
      · exact piece_at x0 x1 x2 _ (k0_off3_inb k) 1 0 k.val hk o3 s.1.2.2.1 hs.b0 _ (store6_at _)
      · exact piece_at x0 x1 x2 _ (k0_off2_inb k) 0 1 k.val hk o2 s.1.2.1 hs.f1 _ (store5_at _)
      · exact piece_at x0 x1 x2 _ (k0_off1_inb k) 0 0 k.val hk o1 s.1.1 hs.f0 _ (store4_at _)
    · exact hs.stored q hq

/-- Before every trip of the kernel's loop the carried values are the states. -/
theorem carried {init} (h : Start arg2 v0 v2 v4 v6 X x0 x1 x2 init) : ∀ n ≤ 16,
    Carried x0 x1 x2 n (st_k0_t1 (F := Ideal) 𝒱 c bd i arg2 harg2 arg3 harg3 arg4 harg4 arg5 harg5 arg6 harg6 v0 v2 v4 v6 X init n)
  | 0, _ => ⟨h.i0, h.i1, h.i2, h.i3, fun q hq => absurd hq List.not_mem_nil⟩
  | n + 1, hn => by
    have hlt : n < k0_t1_loop.trips := by
      have e : k0_t1_loop.trips = 16 := by decide +kernel
      omega
    rw [show n + 1 = (⟨n, hlt⟩ : Fin k0_t1_loop.trips).val + 1 from rfl, st_k0_t1_succ]
    exact Carried.next c bd i harg2 arg3 harg3 arg4 harg4 arg5 harg5 arg6 harg6 ⟨n, hlt⟩ h (carried h n (by omega))

section Blocks
variable (m : (ℓ : Loc nD τ sig) → Buf (Elt Ideal) ℓ) (c : Dev nD) (t : Fin cfg0.N)

/-- The coefficients of one direction and part. -/
theorem coef (off : Fin 3 → ℕ) (inb) (d p : Fin 2) (h : off = ![0, 0, 1024 * d.val + 512 * p.val]) (r : Fin 8) (l : Fin 512) :
    View.ld (Val := Elt Ideal) (e' := .f32) (iblk m c 1 t) (Rect.unit (s := S1x8x2048) off S1x8x512.size inb) (ix3 0 r l)
      = iblk m c 1 t (ix3 0 r (lane d p l)) := by
  refine View.ld_unit_apply_of _ _ _ _ _ _ fun a => ?_
  subst h
  fin_cases a
  · rfl
  · show r.val = 0 + r.val
    omega
  · rfl

/-- What a block's run of the kernel starts from. -/
theorem start : Start (ms0_0 t)
    (View.ld (iblk m c 1 t) (Rect.unit ![0, 0, 0] ![1, 8, 512] inb_S1x8x2048_S1x8x512_0_0_0))
    (View.ld (iblk m c 1 t) (Rect.unit ![0, 0, 512] ![1, 8, 512] inb_S1x8x2048_S1x8x512_0_0_512))
    (View.ld (iblk m c 1 t) (Rect.unit ![0, 0, 1024] ![1, 8, 512] inb_S1x8x2048_S1x8x512_0_0_1024))
    (View.ld (iblk m c 1 t) (Rect.unit ![0, 0, 1536] ![1, 8, 512] inb_S1x8x2048_S1x8x512_0_0_1536))
    ((hs0_0 t).unread (iblk m c 0 t)) (iblk m c 0 t) (iblk m c 1 t) (iblk m c 2 t)
    (k0_pay15 (View.ld (iblk m c 2 t) (Rect.unit ![0, 0, 0, 0] ![1, 1, 8, 512] inb_S1x1x8x2048_S1x1x8x512_0_0_0_0)),
      k0_pay16 (View.ld (iblk m c 2 t) (Rect.unit ![0, 0, 0, 512] ![1, 1, 8, 512] inb_S1x1x8x2048_S1x1x8x512_0_0_0_512)),
      k0_pay17 (View.ld (iblk m c 2 t) (Rect.unit ![0, 0, 0, 1024] ![1, 1, 8, 512] inb_S1x1x8x2048_S1x1x8x512_0_0_0_1024)),
      k0_pay18 (View.ld (iblk m c 2 t) (Rect.unit ![0, 0, 0, 1536] ![1, 1, 8, 512] inb_S1x1x8x2048_S1x1x8x512_0_0_0_1536))) where
  inputs := (hs0_0 t).read_unread _
  c0 r l := coef m c t ![0, 0, 0] _ 0 0 rfl r l
  c1 r l := coef m c t ![0, 0, 512] _ 0 1 rfl r l
  c2 r l := coef m c t ![0, 0, 1024] _ 1 0 rfl r l
  c3 r l := coef m c t ![0, 0, 1536] _ 1 1 rfl r l
  i0 r l := by
    pointwise [k0_pay15]
    exact congrArg (fun z => iblk m c 2 t (ix4 0 0 r z)) (Fin.ext (by show l.val = 1024 * 0 + 512 * 0 + l.val; omega))
  i1 r l := by
    pointwise [k0_pay16]
    exact congrArg (fun z => iblk m c 2 t (ix4 0 0 r z)) (Fin.ext (by show 512 + l.val = 1024 * 0 + 512 * 1 + l.val; omega))
  i2 r l := by
    pointwise [k0_pay17]
    exact congrArg (fun z => iblk m c 2 t (ix4 0 0 r z)) (Fin.ext (by show 1024 + l.val = 1024 * 1 + 512 * 0 + l.val; omega))
  i3 r l := by
    pointwise [k0_pay18]
    exact congrArg (fun z => iblk m c 2 t (ix4 0 0 r z)) (Fin.ext (by show 1536 + l.val = 1024 * 1 + 512 * 1 + l.val; omega))

/-- The kernel's first output block. -/
theorem block1 (y : S1x1x128x2048.Idx) : (outsAt0 m c t).1 y = laid (iblk m c 0 t) (iblk m c 1 t) (iblk m c 2 t) y := by
  have h := carried (𝒱 := Variants.none) c none (grid0.coords t) (hs0_0 t) (ms0_1 t) (hs0_1 t) (ms0_2 t) (hs0_2 t) (ms0_3 t) (hs0_3 t) (ms0_4 t) (hs0_4 t) (start m c t) 16 le_rfl
  unfold outsAt0 out0_A_3
  dsimp only
  refine View.read_writes_apply_of_pieces (Val := Elt Ideal) _ _ _ _ ?_ y (cover0_A_3 (F := Ideal) ..)
  delta kernelRun0_A
  dsimp only
  sl_unfold_words
  simp only [View.readAt_eq_ld, Memref.IsWhole.read_unread, show Scf.trips (0#32) (Scalar.addi 0#32 16#32) 1#32 = 16 from by decide +kernel]
  intro q hq
  exact h.stored q hq

/-- The kernel's second output block. -/
theorem block2 (y : S1x1x8x2048.Idx) : (outsAt0 m c t).2 y = laidLast (iblk m c 0 t) (iblk m c 1 t) (iblk m c 2 t) y := by
  have h := carried (𝒱 := Variants.none) c none (grid0.coords t) (hs0_0 t) (ms0_1 t) (hs0_1 t) (ms0_2 t) (hs0_2 t) (ms0_3 t) (hs0_3 t) (ms0_4 t) (hs0_4 t) (start m c t) 16 le_rfl
  unfold outsAt0 out0_A_4
  dsimp only
  refine View.read_writes_apply_of_pieces (Val := Elt Ideal) _ _ _ _ ?_ y (cover0_A_4 (F := Ideal) ..)
  delta kernelRun0_A
  dsimp only
  sl_unfold_words
  simp only [View.readAt_eq_ld, Memref.IsWhole.read_unread, show Scf.trips (0#32) (Scalar.addi 0#32 16#32) 1#32 = 16 from by decide +kernel]
  intro q hq
  simp only [List.mem_cons, List.not_mem_nil, or_false] at hq
  rcases hq with rfl | rfl | rfl | rfl
  · exact end_at _ _ _ _ inb_S1x1x8x2048_S1x1x8x512_0_0_0_1536 1 1 rfl _ h.b1 _ (end3_at _)
  · exact end_at _ _ _ _ inb_S1x1x8x2048_S1x1x8x512_0_0_0_1024 1 0 rfl _ h.b0 _ (end2_at _)
  · exact end_at _ _ _ _ inb_S1x1x8x2048_S1x1x8x512_0_0_0_512 0 1 rfl _ h.f1 _ (end1_at _)
  · exact end_at _ _ _ _ inb_S1x1x8x2048_S1x1x8x512_0_0_0_0 0 0 rfl _ h.f0 _ (end22_at _)

end Blocks

end Ker

section Final
open Cert.S5ScanIdeal Cert.S5ScanIdeal.Gen

variable (m : (ℓ : Loc nD τ sig) → Buf (Elt Ideal) ℓ) (c : Dev nD) (t : Fin cfg0.N)

/-- Block indices of the windows at every grid point. -/
theorem idx : ∀ t : Fin cfg0.N, win0_0.index t = ![t.val / 4, t.val % 4, 0, 0] ∧ win0_1.index t = ![t.val % 4, 0, 0]
    ∧ win0_2.index t = ![t.val / 4, t.val % 4, 0, 0] ∧ win0_3.index t = ![t.val / 4, t.val % 4, 0, 0] ∧ win0_4.index t = ![t.val / 4, t.val % 4, 0, 0] :=
  (by decide +kernel : ∀ t : Fin grid0.N, _)

/-- The grid has 8 points. -/
theorem lt_N : t.val < 8 := lt_of_lt_of_eq t.isLt N_0

/-- The lanes of a block have the states of the arguments. -/
theorem block_states (r : Fin 8) (d : Fin 2) (l : Fin 512) : bstate (iblk m c 0 t) (iblk m c 1 t) (iblk m c 2 t) r d l
    = state (m ((c : Thread nD τ).loc main_arg0)) (m ((c : Thread nD τ).loc main_arg1)) (m ((c : Thread nD τ).loc main_arg2))
      ⟨t.val / 4, by have := lt_N t; omega⟩ ⟨t.val % 4, by omega⟩ r d l := by
  have e0 : ∀ y z, iblk m c 0 t (ix4 0 0 y z) = m ((c : Thread nD τ).loc main_arg0) (ix4 ⟨t.val / 4, by have := lt_N t; omega⟩ ⟨t.val % 4, by omega⟩ y z) := by
    intro y z
    blk_ext! [iblk, V, idx t]
  have e1 : ∀ y z, iblk m c 1 t (ix3 0 y z) = m ((c : Thread nD τ).loc main_arg1) (ix3 ⟨t.val % 4, by omega⟩ y z) := by
    intro y z
    blk_ext! [iblk, V, idx t]
  have e2 : ∀ y z, iblk m c 2 t (ix4 0 0 y z) = m ((c : Thread nD τ).loc main_arg2) (ix4 ⟨t.val / 4, by have := lt_N t; omega⟩ ⟨t.val % 4, by omega⟩ y z) := by
    intro y z
    blk_ext! [iblk, V, idx t]
  unfold bstate state
  simp only [e0, e1, e2]

/-- The first output array is the reference's first result. -/
theorem final1 : (dats m 0 c).arrAt 3 (cfgs 0).N
    = REF1 (m ((c : Thread nD τ).loc main_arg0)) (m ((c : Thread nD τ).loc main_arg1)) (m ((c : Thread nD τ).loc main_arg2)) := by
  refine (dats m 0 c).arrAt_eq_of_covers 3 _ (by decide +kernel) fun t _ y => ?_
  rw [after0_3]
  refine (block1 m c t y).trans ?_
  have e : bstate (iblk m c 0 t) (iblk m c 1 t) (iblk m c 2 t) = _ := funext fun r => funext fun d => funext fun l => block_states m c t r d l
  refine Eq.trans (b := REF1 (m ((c : Thread nD τ).loc main_arg0)) (m ((c : Thread nD τ).loc main_arg1)) (m ((c : Thread nD τ).loc main_arg2))
    (ix4 ⟨t.val / 4, by have := lt_N t; omega⟩ ⟨t.val % 4, by omega⟩ (y 2) (y 3))) ?_ ?_
  · unfold laid REF1
    rw [e]
    rfl
  · refine congrArg (REF1 (m ((c : Thread nD τ).loc main_arg0)) (m ((c : Thread nD τ).loc main_arg1)) (m ((c : Thread nD τ).loc main_arg2))) ?_
    blk_ext [idx t]

/-- The second output array is the reference's second result. -/
theorem final2 : (dats m 0 c).arrAt 4 (cfgs 0).N
    = REF2 (m ((c : Thread nD τ).loc main_arg0)) (m ((c : Thread nD τ).loc main_arg1)) (m ((c : Thread nD τ).loc main_arg2)) := by
  refine (dats m 0 c).arrAt_eq_of_covers 4 _ (by decide +kernel) fun t _ y => ?_
  rw [after0_4]
  refine (block2 m c t y).trans ?_
  have e : bstate (iblk m c 0 t) (iblk m c 1 t) (iblk m c 2 t) = _ := funext fun r => funext fun d => funext fun l => block_states m c t r d l
  refine Eq.trans (b := REF2 (m ((c : Thread nD τ).loc main_arg0)) (m ((c : Thread nD τ).loc main_arg1)) (m ((c : Thread nD τ).loc main_arg2))
    (ix4 ⟨t.val / 4, by have := lt_N t; omega⟩ ⟨t.val % 4, by omega⟩ (y 2) (y 3))) ?_ ?_
  · unfold laidLast REF2
    rw [e]
    rfl
  · refine congrArg (REF2 (m ((c : Thread nD τ).loc main_arg0)) (m ((c : Thread nD τ).loc main_arg1)) (m ((c : Thread nD τ).loc main_arg2))) ?_
    blk_ext [idx t]

end Final

open Cert.S5ScanRefIdeal in
/-- The reference program's first result. -/
theorem ref_eq1 (m : (ℓ : Loc nD τ sig) → Buf (Elt Ideal) ℓ) (c : Dev nD) :
    Value.out_main_v36 (Value.STEP^[16] (StableHlo.entryContents Value.preI m c)) = REF1 (S0 m c) (A0 m c) (X0 m c) :=
  (out36 m c).trans (first _ _ _)

open Cert.S5ScanRefIdeal in
/-- The reference program's second result. -/
theorem ref_eq2 (m : (ℓ : Loc nD τ sig) → Buf (Elt Ideal) ℓ) (c : Dev nD) :
    Value.out_main_v34 (Value.STEP^[16] (StableHlo.entryContents Value.preI m c)) = REF2 (S0 m c) (A0 m c) (X0 m c) :=
  (out34 m c).trans (second _ _ _)

end Cert.S5ScanProof

end
-- ==== Proof.FinalNorm.lean ====
module

public import proofs.«01_k».proof.Proof.Gen.FinalNormIdeal.Value
public import proofs.«01_k».proof.Proof.Gen.FinalNormRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.FinalNormProof

open Idealize.ShloMosaic Idealize.ShloMosaic.TcCoe Idealize.SL.Sem
open Idealize.ShloMosaic.Pipeline (Dat)

section Ref
open Cert.FinalNormRefIdeal Cert.FinalNormRefIdeal.Gen

/-- The final norm of the reference: every row over the root of its mean square, times the weights. -/
def REF (x : FVec Ideal S16384x1024 .f32) (g : FVec Ideal S1024 .f32) : FVec Ideal S16384x1024 .f32 :=
  shapeCast _ (mulf (mulf (shapeCast _ x shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ x shapeCasts_S16384x1024_S8x2048x1024) (shapeCast _ x shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) shapeCasts_S8x2048x1024_S16384x1024

end Ref

section Kernel
open Cert.FinalNormIdeal Cert.FinalNormIdeal.Gen

variable (m : (ℓ : Loc nD τ sig) → Buf (Elt Ideal) ℓ)

/-- Block indices of the windows at every grid point. -/
theorem idx : ∀ t : Fin cfg0.N, win0_0.index t = ![t.val, 0] ∧ win0_1.index t = ![0, 0] ∧ win0_2.index t = ![t.val, 0] :=
  (by decide +kernel : ∀ t : Fin grid0.N, _)

/-- One block of the kernel's output is the reference at the rows of the block. -/
theorem point (c : Dev nD) (t : Fin cfg0.N) (y) :
    k0_pay1 (iblk m c 0 t) (iblk m c 1 t) y =
      REF (m ((c : Thread nD τ).loc main_arg0)) (m ((c : Thread nD τ).loc main_arg1)) (((cfg0.win 2).blk t).view.emb y) := by
  pointwise [k0_pay1, REF]
  blk_point [iblk, V, idx t]

/-- The output array is the reference. -/
theorem final (c : Dev nD) : (dats m 0 c).arrAt 2 (cfgs 0).N =
    REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Kernel

end Cert.FinalNormProof

end
-- ==== Proof.lean ====
/- The claims of this directory, assembled from the generated frames and the modules of the single calls: for every pair the
   frame of the kernel, of its ideal reading and of the reference, and the equality of their arrays over the real numbers. -/
module

public import proofs.«01_k».proof.Proof.Gen.Pre_finite_scores
public import proofs.«01_k».proof.Proof.Gen.CtxAttn
public import proofs.«01_k».proof.Proof.Gen.CtxAttn.Frame
public import proofs.«01_k».proof.Proof.Gen.CtxAttnIdeal
public import proofs.«01_k».proof.Proof.Gen.CtxAttnIdeal.Frame
public import proofs.«01_k».proof.Proof.Gen.CtxAttnIdeal.Value
public import proofs.«01_k».proof.Proof.Gen.CtxAttnRefIdeal
public import proofs.«01_k».proof.Proof.Gen.CtxAttnRefIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.InOdd
public import proofs.«01_k».proof.Proof.Gen.InOdd.Frame
public import proofs.«01_k».proof.Proof.Gen.InOddIdeal
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.InEven
public import proofs.«01_k».proof.Proof.Gen.InEven.Frame
public import proofs.«01_k».proof.Proof.Gen.InEvenIdeal
public import proofs.«01_k».proof.Proof.Gen.InEvenIdeal.Frame
public import proofs.«01_k».proof.Proof.Gen.InEvenIdeal.Value
public import proofs.«01_k».proof.Proof.Gen.InEvenRefIdeal
public import proofs.«01_k».proof.Proof.Gen.InEvenRefIdeal.Run
public import proofs.«01_k».proof.Proof.Gen.EvenOut
public import proofs.«01_k».proof.Proof.Gen.EvenOut.Frame
public import proofs.«01_k».proof.Proof.Gen.EvenOutIdeal
public import proofs.«01_k».proof.Proof.Gen.EvenOutIdeal.Frame
public import proofs.«01_k».proof.Proof.Gen.EvenOutIdeal.Value
public import proofs.«01_k».proof.Proof.Gen.EvenOutRefIdeal
public import proofs.«01_k».proof.Proof.Gen.EvenOutRefIdeal.Run
public import proofs.«01_k».proof.Proof.Gen.OddOut
public import proofs.«01_k».proof.Proof.Gen.OddOut.Frame
public import proofs.«01_k».proof.Proof.Gen.OddOutIdeal
public import proofs.«01_k».proof.Proof.Gen.OddOutIdeal.Frame
public import proofs.«01_k».proof.Proof.Gen.OddOutIdeal.Value
public import proofs.«01_k».proof.Proof.Gen.OddOutRefIdeal
public import proofs.«01_k».proof.Proof.Gen.OddOutRefIdeal.Run
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationIdeal.Value
public import proofs.«01_k».proof.Proof.Gen.ModulationRefIdeal
public import proofs.«01_k».proof.Proof.Gen.ModulationRefIdeal.Run
public import proofs.«01_k».proof.Proof.Gen.S5Scan
public import proofs.«01_k».proof.Proof.Gen.S5Scan.Frame
public import proofs.«01_k».proof.Proof.Gen.S5ScanIdeal
public import proofs.«01_k».proof.Proof.Gen.S5ScanIdeal.Frame
public import proofs.«01_k».proof.Proof.Gen.S5ScanIdeal.Value
public import proofs.«01_k».proof.Proof.Gen.S5ScanRefIdeal
public import proofs.«01_k».proof.Proof.Gen.S5ScanRefIdeal.Run
public import proofs.«01_k».proof.Proof.Gen.FinalNorm
public import proofs.«01_k».proof.Proof.Gen.FinalNorm.Frame
public import proofs.«01_k».proof.Proof.Gen.FinalNormIdeal
public import proofs.«01_k».proof.Proof.Gen.FinalNormIdeal.Frame
public import proofs.«01_k».proof.Proof.Gen.FinalNormIdeal.Value
public import proofs.«01_k».proof.Proof.Gen.FinalNormRefIdeal
public import proofs.«01_k».proof.Proof.Gen.FinalNormRefIdeal.Run
public import proofs.«01_k».proof.Proof.CtxAttn
public import proofs.«01_k».proof.Proof.Mlp
public import proofs.«01_k».proof.Proof.InOdd
public import proofs.«01_k».proof.Proof.InEven
public import proofs.«01_k».proof.Proof.EvenOut
public import proofs.«01_k».proof.Proof.OddOut
public import proofs.«01_k».proof.Proof.Modulation
public import proofs.«01_k».proof.Proof.S5Scan
public import proofs.«01_k».proof.Proof.FinalNorm
public import proofs.«01_k».proof.Defs
public import Idealize.ShloMosaic.Adequacy
public import Idealize.ShloMosaic.Init
public import Idealize.ShloMosaic.Lib.Quiescent

@[expose] public section

noncomputable section

namespace Cert.Proof

open Idealize.ShloMosaic Idealize.SL.Sem

/-- `CtxAttn`: the reference runs and leaves its arguments alone. -/
theorem frame_CtxAttnRef : Cert.quiescent_CtxAttnRefIdeal := by
  intro m g _
  exact (θ_run _ _ _).mono (fun r h => ⟨fun c => (h c).2, sem_eq_zero_of_no_sems (by decide) r.2⟩) (Cert.CtxAttnRefIdeal.Value.run m g)

/-- `CtxAttn`: over the real numbers the kernel's array is the reference's. -/
theorem algebraic_CtxAttn : Cert.algebraic_CtxAttnIdeal_CtxAttnRefIdeal_pre_finite_scores := by
  pair_intro
  · run_from Cert.CtxAttnIdeal.Gen.run_main m g
  · have h := Cert.CtxAttnRefIdeal.Value.run m' g'
    simp only [Cert.CtxAttnProof.ref_eq] at h
    run_from h
    exact (Cert.CtxAttnProof.final m _ (hpre _)).symm

/-- `Mlp`: the reference runs and leaves its arguments alone. -/
theorem frame_MlpRef : Cert.quiescent_MlpRefIdeal := by
  intro m g _
  exact (θ_run _ _ _).mono (fun r h => ⟨fun c => (h c).2, sem_eq_zero_of_no_sems (by decide) r.2⟩) (Cert.MlpRefIdeal.Value.run m g)

/-- `Mlp`: over the real numbers the kernel's array is the reference's. -/
theorem algebraic_Mlp : Cert.algebraic_MlpIdeal_MlpRefIdeal := by
  pair_intro
  · run_from Cert.MlpIdeal.Gen.run_main m g
  · hlo_run
    exact (Cert.MlpProof.final m _).symm

/-- `InOdd`: the reference runs and leaves its arguments alone. -/
theorem frame_InOddRef : Cert.quiescent_InOddRefIdeal := by
  intro m g _
  exact (θ_run _ _ _).mono (fun r h => ⟨fun c => (h c).2, sem_eq_zero_of_no_sems (by decide) r.2⟩) (Cert.InOddRefIdeal.Value.run m g)

/-- `InOdd`: over the real numbers the kernel's array is the reference's. -/
theorem algebraic_InOdd : Cert.algebraic_InOddIdeal_InOddRefIdeal := by
  pair_intro
  · run_from Cert.InOddIdeal.Gen.run_main m g
    all_goals
      simp only [List.flatten_cons, List.flatten_nil, List.append_nil, List.cons_append, List.nil_append]
      entry_read
      try rfl
  · run_from Cert.InOddRefIdeal.Value.run m' g'
    exact (Cert.InOddProof.final m _).symm

/-- `InEven`: the reference runs and leaves its arguments alone. -/
theorem frame_InEvenRef : Cert.quiescent_InEvenRefIdeal := by
  intro m g _
  exact (θ_run _ _ _).mono (fun r h => ⟨fun c => (h c).2, sem_eq_zero_of_no_sems (by decide) r.2⟩) (Cert.InEvenRefIdeal.Value.run m g)

/-- `InEven`: over the real numbers the kernel's array is the reference's. -/
theorem algebraic_InEven : Cert.algebraic_InEvenIdeal_InEvenRefIdeal := by
  pair_intro
  · run_from Cert.InEvenIdeal.Gen.run_main m g
  · run_from Cert.InEvenRefIdeal.Value.run m' g'
    exact (Cert.InEvenProof.final m _).symm

/-- `EvenOut`: the reference runs and leaves its arguments alone. -/
theorem frame_EvenOutRef : Cert.quiescent_EvenOutRefIdeal := by
  intro m g _
  exact (θ_run _ _ _).mono (fun r h => ⟨fun c => (h c).2, sem_eq_zero_of_no_sems (by decide) r.2⟩) (Cert.EvenOutRefIdeal.Value.run m g)

/-- `EvenOut`: over the real numbers the kernel's array is the reference's. -/
theorem algebraic_EvenOut : Cert.algebraic_EvenOutIdeal_EvenOutRefIdeal := by
  pair_intro
  · run_from Cert.EvenOutIdeal.Gen.run_main m g
  · have h := Cert.EvenOutRefIdeal.Value.run m' g'
    simp only [Cert.EvenOutProof.ref_eq] at h
    run_from h
    exact (Cert.EvenOutProof.final m _).symm

/-- `OddOut`: the reference runs and leaves its arguments alone. -/
theorem frame_OddOutRef : Cert.quiescent_OddOutRefIdeal := by
  intro m g _
  exact (θ_run _ _ _).mono (fun r h => ⟨fun c => (h c).2, sem_eq_zero_of_no_sems (by decide) r.2⟩) (Cert.OddOutRefIdeal.Value.run m g)

/-- `OddOut`: over the real numbers the kernel's array is the reference's. -/
theorem algebraic_OddOut : Cert.algebraic_OddOutIdeal_OddOutRefIdeal := by
  pair_intro
  · run_from Cert.OddOutIdeal.Gen.run_main m g
  · run_from Cert.OddOutRefIdeal.Value.run m' g'
    exact (Cert.OddOutProof.final m _).symm

/-- `Modulation`: the reference runs and leaves its arguments alone. -/
theorem frame_ModulationRef : Cert.quiescent_ModulationRefIdeal := by
  intro m g _
  exact (θ_run _ _ _).mono (fun r h => ⟨fun c => (h c).2, sem_eq_zero_of_no_sems (by decide) r.2⟩) (Cert.ModulationRefIdeal.Value.run m g)

/-- `Modulation`: over the real numbers the kernel's array is the reference's. -/
theorem algebraic_Modulation : Cert.algebraic_ModulationIdeal_ModulationRefIdeal := by
  pair_intro
  · run_from Cert.ModulationIdeal.Gen.run_main m g
  · run_from Cert.ModulationRefIdeal.Value.run m' g'
    have e := congrArg (Cert.ModulationProof.REF (m (c.tc.loc Cert.ModulationIdeal.main_arg0)) (m (c.tc.loc Cert.ModulationIdeal.main_arg1))) (hagree c).2.2
    exact e.trans (Cert.ModulationProof.final m c).symm

/-- `S5Scan`: the reference runs and leaves its arguments alone. -/
theorem frame_S5ScanRef : Cert.quiescent_S5ScanRefIdeal := by
  intro m g _
  exact (θ_run _ _ _).mono (fun r h => ⟨fun c => (h c).2.2, sem_eq_zero_of_no_sems (by decide) r.2⟩) (Cert.S5ScanRefIdeal.Value.run m g)

/-- `S5Scan`: over the real numbers the kernel's array is the reference's. -/
theorem algebraic_S5Scan : Cert.algebraic_S5ScanIdeal_S5ScanRefIdeal := by
  pair_intro
  · run_from Cert.S5ScanIdeal.Gen.run_main m g
  · have h := Cert.S5ScanRefIdeal.Value.run m' g'
    simp only [Cert.S5ScanProof.ref_eq1, Cert.S5ScanProof.ref_eq2] at h
    run_from h
    · exact (Cert.S5ScanProof.final1 m _).symm
    · exact (Cert.S5ScanProof.final2 m _).symm

/-- `FinalNorm`: the reference runs and leaves its arguments alone. -/
theorem frame_FinalNormRef : Cert.quiescent_FinalNormRefIdeal := by
  intro m g _
  exact (θ_run _ _ _).mono (fun r h => ⟨fun c => (h c).2, sem_eq_zero_of_no_sems (by decide) r.2⟩) (Cert.FinalNormRefIdeal.Value.run m g)

/-- `FinalNorm`: over the real numbers the kernel's array is the reference's. -/
theorem algebraic_FinalNorm : Cert.algebraic_FinalNormIdeal_FinalNormRefIdeal := by
  pair_intro
  · run_from Cert.FinalNormIdeal.Gen.run_main m g
  · run_from Cert.FinalNormRefIdeal.Value.run m' g'
    exact (Cert.FinalNormProof.final m _).symm

/-- Every claim: the frames of the programs, then for each pair the idealization and the equality of the results. -/
theorem claim : Cert.Claim :=
  ⟨Cert.CtxAttn.Gen.facts, Cert.CtxAttnIdeal.Gen.facts, Cert.CtxAttnRefIdeal.Gen.facts, Cert.Mlp.Gen.facts, Cert.MlpIdeal.Gen.facts, Cert.MlpRefIdeal.Gen.facts, Cert.InOdd.Gen.facts, Cert.InOddIdeal.Gen.facts, Cert.InOddRefIdeal.Gen.facts, Cert.InEven.Gen.facts, Cert.InEvenIdeal.Gen.facts, Cert.InEvenRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts, Cert.Modulation.Gen.facts, Cert.ModulationIdeal.Gen.facts, Cert.ModulationRefIdeal.Gen.facts, Cert.S5Scan.Gen.facts, Cert.S5ScanIdeal.Gen.facts, Cert.S5ScanRefIdeal.Gen.facts, Cert.FinalNorm.Gen.facts, Cert.FinalNormIdeal.Gen.facts, Cert.FinalNormRefIdeal.Gen.facts, Cert.Pre_finite_scores.Gen.facts,
   fun m ρ _ => Cert.CtxAttn.Gen.frame m ρ, fun m ρ _ => Cert.CtxAttnIdeal.Gen.frame m ρ, fun m ρ _ => Cert.CtxAttnIdeal.Gen.frame m ρ, frame_CtxAttnRef, fun m g _ => frame_CtxAttnRef m g trivial, fun m ρ _ => Cert.Mlp.Gen.frame m ρ, fun m ρ _ => Cert.MlpIdeal.Gen.frame m ρ, frame_MlpRef, fun m ρ _ => Cert.InOdd.Gen.frame m ρ, fun m ρ _ => Cert.InOddIdeal.Gen.frame m ρ, frame_InOddRef, fun m ρ _ => Cert.InEven.Gen.frame m ρ, fun m ρ _ => Cert.InEvenIdeal.Gen.frame m ρ, frame_InEvenRef, fun m ρ _ => Cert.EvenOut.Gen.frame m ρ, fun m ρ _ => Cert.EvenOutIdeal.Gen.frame m ρ, frame_EvenOutRef, fun m ρ _ => Cert.OddOut.Gen.frame m ρ, fun m ρ _ => Cert.OddOutIdeal.Gen.frame m ρ, frame_OddOutRef, fun m ρ _ => Cert.Modulation.Gen.frame m ρ, fun m ρ _ => Cert.ModulationIdeal.Gen.frame m ρ, frame_ModulationRef, fun m ρ _ => Cert.S5Scan.Gen.frame m ρ, fun m ρ _ => Cert.S5ScanIdeal.Gen.frame m ρ, frame_S5ScanRef, fun m ρ _ => Cert.FinalNorm.Gen.frame m ρ, fun m ρ _ => Cert.FinalNormIdeal.Gen.frame m ρ, frame_FinalNormRef,
   trivial, algebraic_CtxAttn, trivial, algebraic_Mlp, trivial, algebraic_InOdd, trivial, algebraic_InEven, trivial, algebraic_EvenOut, trivial, algebraic_OddOut, trivial, algebraic_Modulation, trivial, algebraic_S5Scan, trivial, algebraic_FinalNorm⟩

end Cert.Proof

end
